-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S16x16x256 : Shape := ⟨3, ![16, 16, 256]⟩
abbrev S16 : Shape := ⟨1, ![16]⟩
abbrev S_ : Shape := ⟨0, ![]⟩
abbrev S1 : Shape := ⟨1, ![1]⟩
abbrev S1x16x256 : Shape := ⟨3, ![1, 16, 256]⟩
abbrev S16x256 : Shape := ⟨2, ![16, 256]⟩

abbrev nBuf : Space → Nat
  | .hbm => 5
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x512, .f32⟩
  | .hbm, ⟨2, _⟩ => ⟨S256x512, .f32⟩
  | .hbm, ⟨3, _⟩ => ⟨S512x256, .f32⟩
  | .hbm, ⟨4, _⟩ => ⟨S256x256, .f32⟩
  | .local _ .vmem, ⟨0, _⟩ => ⟨S256x256, .f32⟩
  | .local _ .vmem, ⟨1, _⟩ => ⟨S256x512, .f32⟩
  | .local _ .vmem, ⟨2, _⟩ => ⟨S256x512, .f32⟩
  | .local _ .vmem, ⟨3, _⟩ => ⟨S512x256, .f32⟩
  | .local _ .vmem, ⟨4, _⟩ => ⟨S256x256, .f32⟩
  | .local _ .vmem, ⟨5, _⟩ => ⟨S256x256, .f32⟩
  | .local _ .vmem, ⟨6, _⟩ => ⟨S16x16x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c1_i32_72 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v81 : BitVec 32 := Scalar.addi v2 c1_i32_72
  let c16_i32_73 : BitVec 32 := 16#32
  let v82 : BitVec 32 := Scalar.remsi v81 c16_i32_73
  ![v82.toNat]
def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_77 : BitVec 32 := 0#32
  let c0_i32_78 : BitVec 32 := 0#32
  ![v2.toNat, 0, 0]
def k0_off4 (d0 : Dev nD) (c1_i32_72 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v81 : BitVec 32 := Scalar.addi v2 c1_i32_72
  let c16_i32_73 : BitVec 32 := 16#32
  let v82 : BitVec 32 := Scalar.remsi v81 c16_i32_73
  let c16_i32_74 : BitVec 32 := 16#32
  let v83 : BitVec 32 := Scalar.muli v82 c16_i32_74
  let c0_i32_79 : BitVec 32 := 0#32
  ![v83.toNat, 0]
def k0_dev16 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_72 : BitVec 32 := 1#32
  let v81 : BitVec 32 := Scalar.addi v2 c1_i32_72
  let c16_i32_73 : BitVec 32 := 16#32
  let v82 : BitVec 32 := Scalar.remsi v81 c16_i32_73
  let c1_i32_75 : BitVec 32 := 1#32
  let v84 : BitVec 32 := Scalar.muli v82 c1_i32_75
  let v85 : BitVec 32 := Scalar.addi c0_i32_76 v84
  v85.toNat
def k0_dev17 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_80 : BitVec 32 := 2#32
  let v93 : BitVec 32 := Scalar.addi v2 c2_i32_80
  let c16_i32_81 : BitVec 32 := 16#32
  let v94 : BitVec 32 := Scalar.remsi v93 c16_i32_81
  let c1_i32_83 : BitVec 32 := 1#32
  let v96 : BitVec 32 := Scalar.muli v94 c1_i32_83
  let v97 : BitVec 32 := Scalar.addi c0_i32_84 v96
  v97.toNat
def k0_dev18 (d0 : Dev nD) : Nat :=
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_88 : BitVec 32 := 3#32
  let v105 : BitVec 32 := Scalar.addi v2 c3_i32_88
  let c16_i32_89 : BitVec 32 := 16#32
  let v106 : BitVec 32 := Scalar.remsi v105 c16_i32_89
  let c1_i32_91 : BitVec 32 := 1#32
  let v108 : BitVec 32 := Scalar.muli v106 c1_i32_91
  let v109 : BitVec 32 := Scalar.addi c0_i32_92 v108
  v109.toNat
def k0_dev19 (d0 : Dev nD) : Nat :=
  let c0_i32_100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_96 : BitVec 32 := 4#32
  let v117 : BitVec 32 := Scalar.addi v2 c4_i32_96
  let c16_i32_97 : BitVec 32 := 16#32
  let v118 : BitVec 32 := Scalar.remsi v117 c16_i32_97
  let c1_i32_99 : BitVec 32 := 1#32
  let v120 : BitVec 32 := Scalar.muli v118 c1_i32_99
  let v121 : BitVec 32 := Scalar.addi c0_i32_100 v120
  v121.toNat
def k0_dev20 (d0 : Dev nD) : Nat :=
  let c0_i32_108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_104 : BitVec 32 := 5#32
  let v129 : BitVec 32 := Scalar.addi v2 c5_i32_104
  let c16_i32_105 : BitVec 32 := 16#32
  let v130 : BitVec 32 := Scalar.remsi v129 c16_i32_105
  let c1_i32_107 : BitVec 32 := 1#32
  let v132 : BitVec 32 := Scalar.muli v130 c1_i32_107
  let v133 : BitVec 32 := Scalar.addi c0_i32_108 v132
  v133.toNat
def k0_dev21 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_112 : BitVec 32 := 6#32
  let v141 : BitVec 32 := Scalar.addi v2 c6_i32_112
  let c16_i32_113 : BitVec 32 := 16#32
  let v142 : BitVec 32 := Scalar.remsi v141 c16_i32_113
  let c1_i32_115 : BitVec 32 := 1#32
  let v144 : BitVec 32 := Scalar.muli v142 c1_i32_115
  let v145 : BitVec 32 := Scalar.addi c0_i32_116 v144
  v145.toNat
def k0_dev22 (d0 : Dev nD) : Nat :=
  let c0_i32_124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_120 : BitVec 32 := 7#32
  let v153 : BitVec 32 := Scalar.addi v2 c7_i32_120
  let c16_i32_121 : BitVec 32 := 16#32
  let v154 : BitVec 32 := Scalar.remsi v153 c16_i32_121
  let c1_i32_123 : BitVec 32 := 1#32
  let v156 : BitVec 32 := Scalar.muli v154 c1_i32_123
  let v157 : BitVec 32 := Scalar.addi c0_i32_124 v156
  v157.toNat
def k0_dev23 (d0 : Dev nD) : Nat :=
  let c0_i32_132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_128 : BitVec 32 := 8#32
  let v165 : BitVec 32 := Scalar.addi v2 c8_i32_128
  let c16_i32_129 : BitVec 32 := 16#32
  let v166 : BitVec 32 := Scalar.remsi v165 c16_i32_129
  let c1_i32_131 : BitVec 32 := 1#32
  let v168 : BitVec 32 := Scalar.muli v166 c1_i32_131
  let v169 : BitVec 32 := Scalar.addi c0_i32_132 v168
  v169.toNat
def k0_dev24 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_136 : BitVec 32 := 9#32
  let v177 : BitVec 32 := Scalar.addi v2 c9_i32_136
  let c16_i32_137 : BitVec 32 := 16#32
  let v178 : BitVec 32 := Scalar.remsi v177 c16_i32_137
  let c1_i32_139 : BitVec 32 := 1#32
  let v180 : BitVec 32 := Scalar.muli v178 c1_i32_139
  let v181 : BitVec 32 := Scalar.addi c0_i32_140 v180
  v181.toNat
def k0_dev25 (d0 : Dev nD) : Nat :=
  let c0_i32_148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_144 : BitVec 32 := 10#32
  let v189 : BitVec 32 := Scalar.addi v2 c10_i32_144
  let c16_i32_145 : BitVec 32 := 16#32
  let v190 : BitVec 32 := Scalar.remsi v189 c16_i32_145
  let c1_i32_147 : BitVec 32 := 1#32
  let v192 : BitVec 32 := Scalar.muli v190 c1_i32_147
  let v193 : BitVec 32 := Scalar.addi c0_i32_148 v192
  v193.toNat
def k0_dev26 (d0 : Dev nD) : Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_152 : BitVec 32 := 11#32
  let v201 : BitVec 32 := Scalar.addi v2 c11_i32_152
  let c16_i32_153 : BitVec 32 := 16#32
  let v202 : BitVec 32 := Scalar.remsi v201 c16_i32_153
  let c1_i32_155 : BitVec 32 := 1#32
  let v204 : BitVec 32 := Scalar.muli v202 c1_i32_155
  let v205 : BitVec 32 := Scalar.addi c0_i32_156 v204
  v205.toNat
def k0_dev27 (d0 : Dev nD) : Nat :=
  let c0_i32_164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_160 : BitVec 32 := 12#32
  let v213 : BitVec 32 := Scalar.addi v2 c12_i32_160
  let c16_i32_161 : BitVec 32 := 16#32
  let v214 : BitVec 32 := Scalar.remsi v213 c16_i32_161
  let c1_i32_163 : BitVec 32 := 1#32
  let v216 : BitVec 32 := Scalar.muli v214 c1_i32_163
  let v217 : BitVec 32 := Scalar.addi c0_i32_164 v216
  v217.toNat
def k0_dev28 (d0 : Dev nD) : Nat :=
  let c0_i32_172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_168 : BitVec 32 := 13#32
  let v225 : BitVec 32 := Scalar.addi v2 c13_i32_168
  let c16_i32_169 : BitVec 32 := 16#32
  let v226 : BitVec 32 := Scalar.remsi v225 c16_i32_169
  let c1_i32_171 : BitVec 32 := 1#32
  let v228 : BitVec 32 := Scalar.muli v226 c1_i32_171
  let v229 : BitVec 32 := Scalar.addi c0_i32_172 v228
  v229.toNat
def k0_dev29 (d0 : Dev nD) : Nat :=
  let c0_i32_180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_176 : BitVec 32 := 14#32
  let v237 : BitVec 32 := Scalar.addi v2 c14_i32_176
  let c16_i32_177 : BitVec 32 := 16#32
  let v238 : BitVec 32 := Scalar.remsi v237 c16_i32_177
  let c1_i32_179 : BitVec 32 := 1#32
  let v240 : BitVec 32 := Scalar.muli v238 c1_i32_179
  let v241 : BitVec 32 := Scalar.addi c0_i32_180 v240
  v241.toNat
def k0_dev30 (d0 : Dev nD) : Nat :=
  let c0_i32_188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_184 : BitVec 32 := 15#32
  let v249 : BitVec 32 := Scalar.addi v2 c15_i32_184
  let c16_i32_185 : BitVec 32 := 16#32
  let v250 : BitVec 32 := Scalar.remsi v249 c16_i32_185
  let c1_i32_187 : BitVec 32 := 1#32
  let v252 : BitVec 32 := Scalar.muli v250 c1_i32_187
  let v253 : BitVec 32 := Scalar.addi c0_i32_188 v252
  v253.toNat
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_192 : BitVec 32 := 16#32
  let v261 : BitVec 32 := Scalar.muli v2 c16_i32_192
  let v262 : Index := Scalar.indexCast v261
  let c0_193 : Index := 0#32
  ![v262.toNat, 0]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v264 : Index := Scalar.indexCast v2
  let c0_194 : Index := 0#32
  let c0_195 : Index := 0#32
  ![v264.toNat, 0, 0]
def k0_off7 (d0 : Dev nD) (c1_i32_196 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v268 : BitVec 32 := Scalar.addi v2 c1_i32_196
  let c16_i32_197 : BitVec 32 := 16#32
  let v269 : BitVec 32 := Scalar.remsi v268 c16_i32_197
  let c0_i32_201 : BitVec 32 := 0#32
  let c0_i32_202 : BitVec 32 := 0#32
  ![v269.toNat, 0, 0]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_325 : BitVec 32 := 16#32
  let v426 : BitVec 32 := Scalar.muli v2 c16_i32_325
  let c0_i32_328 : BitVec 32 := 0#32
  ![v426.toNat, 0]
def k0_dev31 (d0 : Dev nD) : Nat :=
  let c0_i32_327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_322 : BitVec 32 := 1#32
  let v423 : BitVec 32 := Scalar.addi v2 c1_i32_322
  let c16_i32_323 : BitVec 32 := 16#32
  let v424 : BitVec 32 := Scalar.remsi v423 c16_i32_323
  let c1_i32_326 : BitVec 32 := 1#32
  let v427 : BitVec 32 := Scalar.muli v424 c1_i32_326
  let v428 : BitVec 32 := Scalar.addi c0_i32_327 v427
  v428.toNat
def k0_dev32 (d0 : Dev nD) : Nat :=
  let c0_i32_335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_330 : BitVec 32 := 2#32
  let v435 : BitVec 32 := Scalar.addi v2 c2_i32_330
  let c16_i32_331 : BitVec 32 := 16#32
  let v436 : BitVec 32 := Scalar.remsi v435 c16_i32_331
  let c1_i32_334 : BitVec 32 := 1#32
  let v439 : BitVec 32 := Scalar.muli v436 c1_i32_334
  let v440 : BitVec 32 := Scalar.addi c0_i32_335 v439
  v440.toNat
def k0_dev33 (d0 : Dev nD) : Nat :=
  let c0_i32_343 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_338 : BitVec 32 := 3#32
  let v447 : BitVec 32 := Scalar.addi v2 c3_i32_338
  let c16_i32_339 : BitVec 32 := 16#32
  let v448 : BitVec 32 := Scalar.remsi v447 c16_i32_339
  let c1_i32_342 : BitVec 32 := 1#32
  let v451 : BitVec 32 := Scalar.muli v448 c1_i32_342
  let v452 : BitVec 32 := Scalar.addi c0_i32_343 v451
  v452.toNat
def k0_dev34 (d0 : Dev nD) : Nat :=
  let c0_i32_351 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_346 : BitVec 32 := 4#32
  let v459 : BitVec 32 := Scalar.addi v2 c4_i32_346
  let c16_i32_347 : BitVec 32 := 16#32
  let v460 : BitVec 32 := Scalar.remsi v459 c16_i32_347
  let c1_i32_350 : BitVec 32 := 1#32
  let v463 : BitVec 32 := Scalar.muli v460 c1_i32_350
  let v464 : BitVec 32 := Scalar.addi c0_i32_351 v463
  v464.toNat
def k0_dev35 (d0 : Dev nD) : Nat :=
  let c0_i32_359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_354 : BitVec 32 := 5#32
  let v471 : BitVec 32 := Scalar.addi v2 c5_i32_354
  let c16_i32_355 : BitVec 32 := 16#32
  let v472 : BitVec 32 := Scalar.remsi v471 c16_i32_355
  let c1_i32_358 : BitVec 32 := 1#32
  let v475 : BitVec 32 := Scalar.muli v472 c1_i32_358
  let v476 : BitVec 32 := Scalar.addi c0_i32_359 v475
  v476.toNat
def k0_dev36 (d0 : Dev nD) : Nat :=
  let c0_i32_367 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_362 : BitVec 32 := 6#32
  let v483 : BitVec 32 := Scalar.addi v2 c6_i32_362
  let c16_i32_363 : BitVec 32 := 16#32
  let v484 : BitVec 32 := Scalar.remsi v483 c16_i32_363
  let c1_i32_366 : BitVec 32 := 1#32
  let v487 : BitVec 32 := Scalar.muli v484 c1_i32_366
  let v488 : BitVec 32 := Scalar.addi c0_i32_367 v487
  v488.toNat
def k0_dev37 (d0 : Dev nD) : Nat :=
  let c0_i32_375 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_370 : BitVec 32 := 7#32
  let v495 : BitVec 32 := Scalar.addi v2 c7_i32_370
  let c16_i32_371 : BitVec 32 := 16#32
  let v496 : BitVec 32 := Scalar.remsi v495 c16_i32_371
  let c1_i32_374 : BitVec 32 := 1#32
  let v499 : BitVec 32 := Scalar.muli v496 c1_i32_374
  let v500 : BitVec 32 := Scalar.addi c0_i32_375 v499
  v500.toNat
def k0_dev38 (d0 : Dev nD) : Nat :=
  let c0_i32_383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_378 : BitVec 32 := 8#32
  let v507 : BitVec 32 := Scalar.addi v2 c8_i32_378
  let c16_i32_379 : BitVec 32 := 16#32
  let v508 : BitVec 32 := Scalar.remsi v507 c16_i32_379
  let c1_i32_382 : BitVec 32 := 1#32
  let v511 : BitVec 32 := Scalar.muli v508 c1_i32_382
  let v512 : BitVec 32 := Scalar.addi c0_i32_383 v511
  v512.toNat
def k0_dev39 (d0 : Dev nD) : Nat :=
  let c0_i32_391 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_386 : BitVec 32 := 9#32
  let v519 : BitVec 32 := Scalar.addi v2 c9_i32_386
  let c16_i32_387 : BitVec 32 := 16#32
  let v520 : BitVec 32 := Scalar.remsi v519 c16_i32_387
  let c1_i32_390 : BitVec 32 := 1#32
  let v523 : BitVec 32 := Scalar.muli v520 c1_i32_390
  let v524 : BitVec 32 := Scalar.addi c0_i32_391 v523
  v524.toNat
def k0_dev40 (d0 : Dev nD) : Nat :=
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_394 : BitVec 32 := 10#32
  let v531 : BitVec 32 := Scalar.addi v2 c10_i32_394
  let c16_i32_395 : BitVec 32 := 16#32
  let v532 : BitVec 32 := Scalar.remsi v531 c16_i32_395
  let c1_i32_398 : BitVec 32 := 1#32
  let v535 : BitVec 32 := Scalar.muli v532 c1_i32_398
  let v536 : BitVec 32 := Scalar.addi c0_i32_399 v535
  v536.toNat
def k0_dev41 (d0 : Dev nD) : Nat :=
  let c0_i32_407 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_402 : BitVec 32 := 11#32
  let v543 : BitVec 32 := Scalar.addi v2 c11_i32_402
  let c16_i32_403 : BitVec 32 := 16#32
  let v544 : BitVec 32 := Scalar.remsi v543 c16_i32_403
  let c1_i32_406 : BitVec 32 := 1#32
  let v547 : BitVec 32 := Scalar.muli v544 c1_i32_406
  let v548 : BitVec 32 := Scalar.addi c0_i32_407 v547
  v548.toNat
def k0_dev42 (d0 : Dev nD) : Nat :=
  let c0_i32_415 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_410 : BitVec 32 := 12#32
  let v555 : BitVec 32 := Scalar.addi v2 c12_i32_410
  let c16_i32_411 : BitVec 32 := 16#32
  let v556 : BitVec 32 := Scalar.remsi v555 c16_i32_411
  let c1_i32_414 : BitVec 32 := 1#32
  let v559 : BitVec 32 := Scalar.muli v556 c1_i32_414
  let v560 : BitVec 32 := Scalar.addi c0_i32_415 v559
  v560.toNat
def k0_dev43 (d0 : Dev nD) : Nat :=
  let c0_i32_423 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_418 : BitVec 32 := 13#32
  let v567 : BitVec 32 := Scalar.addi v2 c13_i32_418
  let c16_i32_419 : BitVec 32 := 16#32
  let v568 : BitVec 32 := Scalar.remsi v567 c16_i32_419
  let c1_i32_422 : BitVec 32 := 1#32
  let v571 : BitVec 32 := Scalar.muli v568 c1_i32_422
  let v572 : BitVec 32 := Scalar.addi c0_i32_423 v571
  v572.toNat
def k0_dev44 (d0 : Dev nD) : Nat :=
  let c0_i32_431 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_426 : BitVec 32 := 14#32
  let v579 : BitVec 32 := Scalar.addi v2 c14_i32_426
  let c16_i32_427 : BitVec 32 := 16#32
  let v580 : BitVec 32 := Scalar.remsi v579 c16_i32_427
  let c1_i32_430 : BitVec 32 := 1#32
  let v583 : BitVec 32 := Scalar.muli v580 c1_i32_430
  let v584 : BitVec 32 := Scalar.addi c0_i32_431 v583
  v584.toNat
def k0_dev45 (d0 : Dev nD) : Nat :=
  let c0_i32_439 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_434 : BitVec 32 := 15#32
  let v591 : BitVec 32 := Scalar.addi v2 c15_i32_434
  let c16_i32_435 : BitVec 32 := 16#32
  let v592 : BitVec 32 := Scalar.remsi v591 c16_i32_435
  let c1_i32_438 : BitVec 32 := 1#32
  let v595 : BitVec 32 := Scalar.muli v592 c1_i32_438
  let v596 : BitVec 32 := Scalar.addi c0_i32_439 v595
  v596.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S256x256 : Shape := ⟨2, ![256, 256]⟩
abbrev S256x8192 : Shape := ⟨2, ![256, 8192]⟩
abbrev S8192x256 : Shape := ⟨2, ![8192, 256]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x8192, .f32⟩
  | .hbm, ⟨2, _⟩ => ⟨S256x8192, .f32⟩
  | .hbm, ⟨3, _⟩ => ⟨S8192x256, .f32⟩
  | .hbm, ⟨4, _⟩ => ⟨S256x8192, .f32⟩
  | .hbm, ⟨5, _⟩ => ⟨S256x8192, .f32⟩
  | .hbm, ⟨6, _⟩ => ⟨S256x8192, .f32⟩
  | .hbm, ⟨7, _⟩ => ⟨S256x8192, .f32⟩
  | .hbm, ⟨8, _⟩ => ⟨S_, .f32⟩
  | .hbm, ⟨9, _⟩ => ⟨S256x8192, .f32⟩
  | .hbm, ⟨10, _⟩ => ⟨S256x8192, .f32⟩
  | .hbm, ⟨11, _⟩ => ⟨S256x8192, .f32⟩
  | .hbm, ⟨12, _⟩ => ⟨S256x8192, .f32⟩
  | .hbm, ⟨13, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Proof.Script.lean ====
/-
# The kernel as a script

The kernel's body names every device, row block, slot and semaphore by an offset computed from its device id. Here the
body is written as six lists of operations — signals, first transfers, waits, second transfers, waits, waits — with the
two stores between them, and every offset is brought to the form that names its peer directly.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Kit

@[expose] public section

noncomputable section

namespace Cert.Mlp

open Cert.KernelIdeal Cert.KernelIdeal.Gen
open Idealize.ShloMosaic Idealize.ShloMosaic.TcCoe
open Idealize.SL Idealize.SL.Sem

variable {F : FTy → Type} [FloatOps F]

/-- An operation of the kernel that returns nothing. -/
abbrev Act (F : FTy → Type) : Type := TpuEff nD τ sig (Elt F) Λ₀ .tc PUnit

/-- A list of operations, then the rest of the program. -/
def run {α : Type} (l : List (Act F)) (k : Prog (TpuEff nD τ sig (Elt F) Λ₀ .tc) α) : Prog (TpuEff nD τ sig (Elt F) Λ₀ .tc) α :=
  l.foldr (fun e k => .op e fun _ => k) k

/-! ## Peers -/

/-- The device `r + 1` places after `c`. -/
def peer (c : Dev nD) (r : Fin 15) : Dev nD := ⟨(c.val + (1 + r.val)) % 16, Nat.mod_lt _ (by decide)⟩

/-- The fifteen offsets, in the kernel's order. -/
def offs : List (Fin 15) := [0, 1, 2, 3, 4, 5, 6, 7, 8, 9, 10, 11, 12, 13, 14]

/-- The word the kernel computes offset `r` with. -/
abbrev wd (r : Fin 15) : BitVec 32 := BitVec.ofNat 32 (1 + r.val)

/-! ## Views, by offset -/

/-- Offsets at which sixteen rows of a 256 × 256 buffer fit. -/
abbrev RowOff : Type := {o : Fin 2 → ℕ // ∀ a, o a + S16x256.size a ≤ S256x256.size a}
/-- Offsets at which one slot of the sixteen fits. -/
abbrev SlotOff : Type := {o : Fin 3 → ℕ // ∀ a, o a + S1x16x256.size a ≤ S16x16x256.size a}
/-- Offsets at which one semaphore of a family of sixteen fits. -/
abbrev SemOff : Type := {o : Fin 1 → ℕ // ∀ a, o a + S1.size a ≤ S16.size a}

/-- Sixteen rows of a 256 × 256 buffer. -/
abbrev rowsAt (b : Memref sig .tc .vmem S256x256 .f32) (o : RowOff) :
    Memref sig .tc .vmem S16x256 .f32 := b.slice (Rect.unit (s := S256x256) o.1 S16x256.size o.2) (fun _ => rfl)
/-- One slot of the 16 × 16 × 256 buffer. -/
abbrev slotAt (b : Memref sig .tc .vmem S16x16x256 .f32) (o : SlotOff) :
    Memref sig .tc .vmem S16x256 .f32 :=
  (b.slice (Rect.unit (s := S16x16x256) o.1 S1x16x256.size o.2) (fun _ => rfl)).squeeze S16x256 squeezes_S1x16x256_S16x256
/-- One semaphore of a row of sixteen. -/
abbrev semAt (b : DmaSems sig S16) (o : SemOff) : DmaSem sig :=
  ((b.slice (Rect.unit (s := S16) o.1 S1.size o.2)).squeeze S_ squeezes_S1_S_).sem

/-- The partial product's buffer, whole. -/
abbrev partM : Memref sig .tc .vmem S256x256 .f32 := Memref.whole cc0_scratch0
/-- The buffer with sixteen slots, whole. -/
abbrev bufM : Memref sig .tc .vmem S16x16x256 .f32 := Memref.whole cc0_scratch1
/-- The result's buffer, whole. -/
abbrev outM : Memref sig .tc .vmem S256x256 .f32 := Memref.whole cc0_stg4_0
/-- The barrier semaphore. -/
abbrev barS : Sem sig := (SemArray.scalar (sig.barrier 0 rfl) : Sems sig S_).sem

/-- Sixteen rows from row `16 j` lie inside the buffer. -/
theorem rows_inb (j : Dev nD) : ∀ a, (![16 * j.val, 0] : Fin 2 → ℕ) a + S16x256.size a ≤ S256x256.size a := by
  have h : j.val < 16 := j.isLt
  intro a; fin_cases a
  · show 16 * j.val + 16 ≤ 256; omega
  · show 0 + 256 ≤ 256; omega
/-- Slot `j` lies inside the buffer of slots. -/
theorem slot_inb (j : Dev nD) : ∀ a, (![j.val, 0, 0] : Fin 3 → ℕ) a + S1x16x256.size a ≤ S16x16x256.size a := by
  have h : j.val < 16 := j.isLt
  intro a; fin_cases a
  · show j.val + 1 ≤ 16; omega
  · show 0 + 16 ≤ 16; omega
  · show 0 + 256 ≤ 256; omega
/-- Semaphore `j` lies inside its family. -/
theorem sem_inb (j : Dev nD) : ∀ a, (![j.val] : Fin 1 → ℕ) a + S1.size a ≤ S16.size a := by
  have h : j.val < 16 := j.isLt
  intro a; fin_cases a
  show j.val + 1 ≤ 16; omega

/-- Rows `16 j … 16 j + 15`, slot `j`, semaphore `j`. -/
def rowOff (j : Dev nD) : RowOff := ⟨![16 * j.val, 0], rows_inb j⟩
/-- The offset of slot `j`. -/
def slotOff (j : Dev nD) : SlotOff := ⟨![j.val, 0, 0], slot_inb j⟩
/-- The offset of semaphore `j` of a family. -/
def semOff (j : Dev nD) : SemOff := ⟨![j.val], sem_inb j⟩

/-! ## The operations -/

/-- One unit to the barrier semaphore of `d`. -/
abbrev sigOp (d : Dev nD) : Act F := .semSignal (d, .tc) barS (1#32 : BitVec 32).toInt

/-- A transfer of partial rows into a slot of device `d`. -/
abbrev rsOp (d : Dev nD) (o4 : RowOff) (o3 : SlotOff) (o1 o2 : SemOff) : Act F :=
  .enqueueDma (rowsAt partM o4) (.remote (Dev.tc d) (slotAt bufM o3) (.dma (semAt cc0_scratch2 o1))) (.dma (semAt cc0_scratch3 o2))
    (View.wordExact_bits rfl) ((View.wordExact_bits rfl).reshape _ _) ⟨⟨rfl, Or.inl rfl⟩, trivial⟩

/-- A transfer of finished rows into the same rows of device `d`. -/
abbrev agOp (d : Dev nD) (o8 : RowOff) (o1 o2 : SemOff) : Act F :=
  .enqueueDma (rowsAt outM o8) (.remote (Dev.tc d) (rowsAt outM o8) (.dma (semAt cc0_scratch4 o1))) (.dma (semAt cc0_scratch5 o2))
    (View.wordExact_bits rfl) (View.wordExact_bits rfl) ⟨⟨rfl, Or.inl rfl⟩, trivial⟩

/-- A wait for partial rows to land in a slot. -/
abbrev rsRecvOp (o1 : SemOff) (o4 : RowOff) (o7 : SlotOff) : Act F :=
  .waitDma2 (semAt cc0_scratch3 o1) (rowsAt partM o4) (slotAt bufM o7) (View.wordExact_bits rfl) ((View.wordExact_bits rfl).reshape _ _)
/-- A wait for finished rows to land. -/
abbrev agRecvOp (o1 : SemOff) (o4 : RowOff) : Act F :=
  .waitDma2 (semAt cc0_scratch5 o1) (rowsAt outM o4) (rowsAt outM o4) (View.wordExact_bits rfl) (View.wordExact_bits rfl)
/-- A wait for partial rows to have been sent. -/
abbrev rsSentOp (o1 : SemOff) (o3 : SlotOff) (o4 : RowOff) : Act F :=
  .waitDma2 (semAt cc0_scratch2 o1) (slotAt bufM o3) (rowsAt partM o4) ((View.wordExact_bits rfl).reshape _ _) (View.wordExact_bits rfl)
/-- A wait for finished rows to have been sent. -/
abbrev agSentOp (o1 : SemOff) (o8 : RowOff) : Act F :=
  .waitDma2 (semAt cc0_scratch4 o1) (rowsAt outM o8) (rowsAt outM o8) (View.wordExact_bits rfl) (View.wordExact_bits rfl)

/-- The devices the kernel signals, in its order. -/
def sigTo (c : Dev nD) : Fin 15 → Dev nD :=
  ![⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩,
    ⟨k0_dev6 c, k0_dev6_lt c⟩, ⟨k0_dev7 c, k0_dev7_lt c⟩, ⟨k0_dev8 c, k0_dev8_lt c⟩, ⟨k0_dev9 c, k0_dev9_lt c⟩, ⟨k0_dev10 c, k0_dev10_lt c⟩,
    ⟨k0_dev11 c, k0_dev11_lt c⟩, ⟨k0_dev12 c, k0_dev12_lt c⟩, ⟨k0_dev13 c, k0_dev13_lt c⟩, ⟨k0_dev14 c, k0_dev14_lt c⟩, ⟨k0_dev15 c, k0_dev15_lt c⟩]
/-- The devices the kernel sends partial rows to, in its order. -/
def rsTo (c : Dev nD) : Fin 15 → Dev nD :=
  ![⟨k0_dev16 c, k0_dev16_lt c⟩, ⟨k0_dev17 c, k0_dev17_lt c⟩, ⟨k0_dev18 c, k0_dev18_lt c⟩, ⟨k0_dev19 c, k0_dev19_lt c⟩, ⟨k0_dev20 c, k0_dev20_lt c⟩,
    ⟨k0_dev21 c, k0_dev21_lt c⟩, ⟨k0_dev22 c, k0_dev22_lt c⟩, ⟨k0_dev23 c, k0_dev23_lt c⟩, ⟨k0_dev24 c, k0_dev24_lt c⟩, ⟨k0_dev25 c, k0_dev25_lt c⟩,
    ⟨k0_dev26 c, k0_dev26_lt c⟩, ⟨k0_dev27 c, k0_dev27_lt c⟩, ⟨k0_dev28 c, k0_dev28_lt c⟩, ⟨k0_dev29 c, k0_dev29_lt c⟩, ⟨k0_dev30 c, k0_dev30_lt c⟩]
/-- The devices the kernel sends finished rows to, in its order. -/
def agTo (c : Dev nD) : Fin 15 → Dev nD :=
  ![⟨k0_dev31 c, k0_dev31_lt c⟩, ⟨k0_dev32 c, k0_dev32_lt c⟩, ⟨k0_dev33 c, k0_dev33_lt c⟩, ⟨k0_dev34 c, k0_dev34_lt c⟩, ⟨k0_dev35 c, k0_dev35_lt c⟩,
    ⟨k0_dev36 c, k0_dev36_lt c⟩, ⟨k0_dev37 c, k0_dev37_lt c⟩, ⟨k0_dev38 c, k0_dev38_lt c⟩, ⟨k0_dev39 c, k0_dev39_lt c⟩, ⟨k0_dev40 c, k0_dev40_lt c⟩,
    ⟨k0_dev41 c, k0_dev41_lt c⟩, ⟨k0_dev42 c, k0_dev42_lt c⟩, ⟨k0_dev43 c, k0_dev43_lt c⟩, ⟨k0_dev44 c, k0_dev44_lt c⟩, ⟨k0_dev45 c, k0_dev45_lt c⟩]

/-- The signal at distance `r + 1` goes to the peer at that distance. -/
theorem sigTo_eq : ∀ (c : Dev nD) (r : Fin 15), sigTo c r = peer c r := by decide +kernel
/-- So does the copy of partial rows. -/
theorem rsTo_eq : ∀ (c : Dev nD) (r : Fin 15), rsTo c r = peer c r := by decide +kernel
/-- So does the copy of summed rows. -/
theorem agTo_eq : ∀ (c : Dev nD) (r : Fin 15), agTo c r = peer c r := by decide +kernel

/-! ## The script -/

/-- The program after the partial product has been stored: the barrier wait, the reduce-scatter, the all-gather, the last
    waits. The operations are left a parameter, each list a function of the offset; `o5` and `o6` are where the two stores go. -/
def tail (o5 : RowOff) (o6 : SlotOff) (rs rsR ag agR rsS agS : Fin 15 → Act F) : Prog (TpuEff nD τ sig (Elt F) Λ₀ .tc) PUnit :=
  .op (.semWait barS (15#32 : BitVec 32).toInt) fun _ =>
  run (offs.map rs) <|
  .op (.load partM (Rect.unit (s := S256x256) o5.1 S16x256.size o5.2).toLoadRect (View.loadsAt_vmem h_S16x256)) fun v263 =>
  .op (.load bufM (Rect.unit (s := S16x16x256) o6.1 S1x16x256.size o6.2).toLoadRect (View.loadsAt_vmem h_S1x16x256)) fun _ =>
  .op (.store bufM (Rect.unit (s := S16x16x256) o6.1 S1x16x256.size o6.2) (k0_pay4 v263) Finset.univ (View.stores_vmem_bits_univ h_S1x16x256 rfl) (.inl rfl)) fun _ =>
  run (offs.map rsR) <|
  .op (.load bufM (Rect.unit (s := S16x16x256) ![0, 0, 0] S16x16x256.size inb_S16x16x256_S16x16x256_0_0_0).toLoadRect (View.loadsAt_vmem h_S16x16x256)) fun v418 =>
  .op (.load outM (Rect.unit (s := S256x256) o5.1 S16x256.size o5.2).toLoadRect (View.loadsAt_vmem h_S16x256)) fun _ =>
  .op (.store outM (Rect.unit (s := S256x256) o5.1 S16x256.size o5.2) (k0_pay5 v418) Finset.univ (View.stores_vmem_bits_univ h_S16x256 rfl) (.inl rfl)) fun _ =>
  run (offs.map ag) <| run (offs.map agR) <| run (offs.map rsS) <| run (offs.map agS) <| .ret ⟨⟩

/-- The whole body, over the same parameters. -/
def script (o5 : RowOff) (o6 : SlotOff) (sg rs rsR ag agR rsS agS : Fin 15 → Act F) : Prog (TpuEff nD τ sig (Elt F) Λ₀ .tc) PUnit :=
  run (offs.map sg) <|
  .op (.load (Memref.whole cc0_stg0_0) (Rect.unit (s := S256x256) ![0, 0] S256x256.size inb_S256x256_S256x256_0_0).toLoadRect (View.loadsAt_vmem h_S256x256)) fun v64 =>
  .op (.load (Memref.whole cc0_stg1_0) (Rect.unit (s := S256x512) ![0, 0] S256x512.size inb_S256x512_S256x512_0_0).toLoadRect (View.loadsAt_vmem h_S256x512)) fun v66 =>
  .op (.load (Memref.whole cc0_stg2_0) (Rect.unit (s := S256x512) ![0, 0] S256x512.size inb_S256x512_S256x512_0_0).toLoadRect (View.loadsAt_vmem h_S256x512)) fun v69 =>
  .op (.load (Memref.whole cc0_stg3_0) (Rect.unit (s := S512x256) ![0, 0] S512x256.size inb_S512x256_S512x256_0_0).toLoadRect (View.loadsAt_vmem h_S512x256)) fun v75 =>
  .op (.load partM (Rect.unit (s := S256x256) ![0, 0] S256x256.size inb_S256x256_S256x256_0_0).toLoadRect (View.loadsAt_vmem h_S256x256)) fun _ =>
  .op (.store partM (Rect.unit (s := S256x256) ![0, 0] S256x256.size inb_S256x256_S256x256_0_0) (k0_pay3 (k0_pay1 v64 v66 v69) (k0_pay2 v75)) Finset.univ (View.stores_vmem_bits_univ h_S256x256 rfl) (.inl rfl)) fun _ =>
  tail o5 o6 rs rsR ag agR rsS agS

/-- The script as the kernel writes it: every offset computed from the device id. -/
def written (c : Dev nD) : Prog (TpuEff nD τ sig (Elt F) Λ₀ .tc) PUnit :=
  script ⟨k0_off5 c, k0_off5_inb c⟩ ⟨k0_off6 c, k0_off6_inb c⟩ (fun r => sigOp (sigTo c r))
    (fun r => rsOp (rsTo c r) ⟨k0_off4 c (wd r), k0_off4_inb c r⟩ ⟨k0_off3 c, k0_off3_inb c⟩ ⟨k0_off1 c (wd r), k0_off1_inb c r⟩ ⟨k0_off2 c, k0_off2_inb c⟩)
    (fun r => rsRecvOp ⟨k0_off1 c (wd r), k0_off1_inb c r⟩ ⟨k0_off4 c (wd r), k0_off4_inb c r⟩ ⟨k0_off7 c (wd r), k0_off7_inb c r⟩)
    (fun r => agOp (agTo c r) ⟨k0_off8 c, k0_off8_inb c⟩ ⟨k0_off1 c (wd r), k0_off1_inb c r⟩ ⟨k0_off2 c, k0_off2_inb c⟩)
    (fun r => agRecvOp ⟨k0_off1 c (wd r), k0_off1_inb c r⟩ ⟨k0_off4 c (wd r), k0_off4_inb c r⟩)
    (fun r => rsSentOp ⟨k0_off1 c (wd r), k0_off1_inb c r⟩ ⟨k0_off3 c, k0_off3_inb c⟩ ⟨k0_off4 c (wd r), k0_off4_inb c r⟩)
    (fun r => agSentOp ⟨k0_off1 c (wd r), k0_off1_inb c r⟩ ⟨k0_off8 c, k0_off8_inb c⟩)

/-- The kernel body as the pipeline calls it. -/
abbrev body (F : FTy → Type) [FloatOps F] : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_scratch0) (Memref.isWhole_whole _)
    (Memref.whole cc0_scratch1) (Memref.isWhole_whole _) cc0_scratch2 cc0_scratch3 cc0_scratch4 cc0_scratch5

set_option maxRecDepth 65536 in
/-- The kernel body reads its device id and runs the script. -/
theorem body_written : body F = .op .deviceId fun c => written c := by
  unfold body
  rw [cc0_body_eq_skeleton]
  rfl

/-! ## The script by peers -/

/-- The number of the peer at distance `r + 1`. -/
theorem peer_val (c : Dev nD) (r : Fin 15) : (c.val + r.val + 1) % 16 = (peer c r).val := by
  show _ = (c.val + (1 + r.val)) % 16
  rw [Nat.add_comm 1, Nat.add_assoc]

/-- The printed offset of a peer's semaphore. -/
theorem off1_peer (c : Dev nD) (r : Fin 15) : (⟨k0_off1 c (wd r), k0_off1_inb c r⟩ : SemOff) = semOff (peer c r) :=
  Subtype.ext ((k0_off1_eq c r).trans (by rw [peer_val]; rfl))
/-- The printed offset of a peer's rows. -/
theorem off4_peer (c : Dev nD) (r : Fin 15) : (⟨k0_off4 c (wd r), k0_off4_inb c r⟩ : RowOff) = rowOff (peer c r) :=
  Subtype.ext ((k0_off4_eq c r).trans (by rw [peer_val]; rfl))
/-- The printed offset of a peer's slot. -/
theorem off7_peer (c : Dev nD) (r : Fin 15) : (⟨k0_off7 c (wd r), k0_off7_inb c r⟩ : SlotOff) = slotOff (peer c r) :=
  Subtype.ext ((k0_off7_eq c r).trans (by rw [peer_val]; rfl))
/-- The printed offset of the device's own semaphore. -/
theorem off2_here (c : Dev nD) : (⟨k0_off2 c, k0_off2_inb c⟩ : SemOff) = semOff c := Subtype.ext (k0_off2_eq c)
/-- The printed offset of the device's own slot, as a copy's target. -/
theorem off3_here (c : Dev nD) : (⟨k0_off3 c, k0_off3_inb c⟩ : SlotOff) = slotOff c := Subtype.ext (k0_off3_eq c)
/-- The printed offset of the device's own rows, where it reads its partial product. -/
theorem off5_here (c : Dev nD) : (⟨k0_off5 c, k0_off5_inb c⟩ : RowOff) = rowOff c := Subtype.ext (k0_off5_eq c)
/-- The printed offset of the device's own slot, where it stores. -/
theorem off6_here (c : Dev nD) : (⟨k0_off6 c, k0_off6_inb c⟩ : SlotOff) = slotOff c := Subtype.ext (k0_off6_eq c)
/-- The printed offset of the device's own rows of the result. -/
theorem off8_here (c : Dev nD) : (⟨k0_off8 c, k0_off8_inb c⟩ : RowOff) = rowOff c := Subtype.ext (k0_off8_eq c)

/-- The script names every peer directly. -/
theorem written_eq (c : Dev nD) : (written c : Prog (TpuEff nD τ sig (Elt F) Λ₀ .tc) PUnit)
    = script (rowOff c) (slotOff c) (fun r => sigOp (peer c r)) (fun r => rsOp (peer c r) (rowOff (peer c r)) (slotOff c) (semOff (peer c r)) (semOff c))
        (fun r => rsRecvOp (semOff (peer c r)) (rowOff (peer c r)) (slotOff (peer c r)))
        (fun r => agOp (peer c r) (rowOff c) (semOff (peer c r)) (semOff c))
        (fun r => agRecvOp (semOff (peer c r)) (rowOff (peer c r)))
        (fun r => rsSentOp (semOff (peer c r)) (slotOff c) (rowOff (peer c r)))
        (fun r => agSentOp (semOff (peer c r)) (rowOff c)) := by
  unfold written
  simp only [sigTo_eq, rsTo_eq, agTo_eq, off1_peer, off2_here, off3_here, off4_peer, off5_here, off6_here, off7_peer, off8_here]

/-- Every transfer counts the same on its semaphores. -/
abbrev N : ℕ := (slotAt bufM (slotOff 0)).view.dmaCredit
/-- A transfer counts for something. -/
theorem N_pos : 0 < N := View.dmaCredit_pos _ (by decide)

end Cert.Mlp
end
-- ==== Proof.Contents.lean ====
/-
# What the buffers hold

The partial product of each device, what lands in a device's sixteen slots, and the finished array, together with the
elements each row block and each slot covers and the fact that every transfer and store leaves exactly these contents.
-/
module

public import proofs.«01_k».proof.Proof.Script
public import Idealize.ShloMosaic.Lib.ValueLayout
public import Idealize.ShloMosaic.Lib.VecWindow

@[expose] public section

noncomputable section

namespace Cert.Mlp

open Cert.KernelIdeal Cert.KernelIdeal.Gen
open Idealize.ShloMosaic Idealize.ShloMosaic.TcCoe Idealize.ShloMosaic.ValueIdx
open Idealize.SL Idealize.SL.Sem

variable {F : FTy → Type} [FloatOps F]

/-! ## Elements -/

/-- The rows of block `j`. -/
def rowSet (j : Dev nD) : Finset S256x256.Idx := Finset.univ.filter fun i => (i 0).val / 16 = j.val
/-- The elements of slot `j`. -/
def slotSet (j : Dev nD) : Finset S16x16x256.Idx := Finset.univ.filter fun i => (i 0).val = j.val

/-- An index is in block `j` when its row, divided by sixteen, is `j`. -/
theorem mem_rowSet {i : S256x256.Idx} {j : Dev nD} : i ∈ rowSet j ↔ (i 0).val / 16 = j.val := by simp [rowSet]
/-- An index is in slot `j` when its first coordinate is `j`. -/
theorem mem_slotSet {i : S16x16x256.Idx} {j : Dev nD} : i ∈ slotSet j ↔ (i 0).val = j.val := by simp [slotSet]

/-- A rectangle of sixteen full rows starting at `16 j` covers block `j`. -/
theorem rowRect_set (j : Dev nD) : (Rect.unit (s := S256x256) (rowOff j).1 S16x256.size (rowOff j).2).set = rowSet j := by
  ext i
  rw [Rect.mem_set_unit, mem_rowSet]
  have h1 : (i 1).val < 256 := (i 1).isLt
  constructor
  · intro h
    have h0 : 16 * j.val ≤ (i 0).val ∧ (i 0).val < 16 * j.val + 16 := h 0
    omega
  · intro h a
    fin_cases a
    · show 16 * j.val ≤ (i 0).val ∧ (i 0).val < 16 * j.val + 16
      omega
    · show 0 ≤ (i 1).val ∧ (i 1).val < 0 + 256
      omega

/-- The rectangle of one slot covers the slot. -/
theorem slotRect_set (j : Dev nD) : (Rect.unit (s := S16x16x256) (slotOff j).1 S1x16x256.size (slotOff j).2).set = slotSet j := by
  ext i
  rw [Rect.mem_set_unit, mem_slotSet]
  have h1 : (i 1).val < 16 := (i 1).isLt
  have h2 : (i 2).val < 256 := (i 2).isLt
  constructor
  · intro h
    have h0 : j.val ≤ (i 0).val ∧ (i 0).val < j.val + 1 := h 0
    omega
  · intro h a
    fin_cases a
    · show j.val ≤ (i 0).val ∧ (i 0).val < j.val + 1
      omega
    · show 0 ≤ (i 1).val ∧ (i 1).val < 0 + 16
      omega
    · show 0 ≤ (i 2).val ∧ (i 2).val < 0 + 256
      omega

/-- The view of rows `j` of the partial product covers block `j`. -/
theorem part_set (j : Dev nD) : (rowsAt partM (rowOff j)).view.set = rowSet j := (View.set_slice_whole _ _).trans (rowRect_set j)
/-- The view of rows `j` of the result covers block `j`. -/
theorem out_set (j : Dev nD) : (rowsAt outM (rowOff j)).view.set = rowSet j := (View.set_slice_whole _ _).trans (rowRect_set j)
/-- The view of slot `j` covers slot `j`. -/
theorem slot_set (j : Dev nD) : (slotAt bufM (slotOff j)).view.set = slotSet j :=
  (View.set_reshape _ _).trans ((View.set_slice_whole _ _).trans (slotRect_set j))

/-- Two blocks of rows have no index in common. -/
theorem rowSet_disjoint {i j : Dev nD} (h : i ≠ j) : Disjoint (rowSet i) (rowSet j) :=
  Finset.disjoint_left.mpr fun x hi hj => h (Fin.ext ((mem_rowSet.mp hi).symm.trans (mem_rowSet.mp hj)))
/-- Two slots have no index in common. -/
theorem slotSet_disjoint {i j : Dev nD} (h : i ≠ j) : Disjoint (slotSet i) (slotSet j) :=
  Finset.disjoint_left.mpr fun x hi hj => h (Fin.ext ((mem_slotSet.mp hi).symm.trans (mem_slotSet.mp hj)))

/-- The block a row lies in. -/
def blockOf (i : S256x256.Idx) : Dev nD := ⟨(i 0).val / 16, by have h : (i 0).val < 256 := (i 0).isLt; show _ < 16; omega⟩
/-- The sixteen blocks of rows are the whole buffer. -/
theorem rowSet_cover : (Finset.univ : Finset (Dev nD)).biUnion rowSet = Finset.univ :=
  Finset.eq_univ_of_forall fun i => Finset.mem_biUnion.mpr ⟨blockOf i, Finset.mem_univ _, mem_rowSet.mpr rfl⟩
/-- The sixteen slots are the whole buffer. -/
theorem slotSet_cover : (Finset.univ : Finset (Dev nD)).biUnion slotSet = Finset.univ :=
  Finset.eq_univ_of_forall fun i => Finset.mem_biUnion.mpr ⟨i 0, Finset.mem_univ _, mem_slotSet.mpr rfl⟩

/-! ## Where the views put their elements -/

/-- Row `a` of block `j`, column `b`. -/
def at2 (j : Dev nD) (a : Fin 16) (b : Fin 256) : S256x256.Idx :=
  ix2 ⟨16 * j.val + a.val, by have h : j.val < 16 := j.isLt; have := a.isLt; omega⟩ b

/-- Where a rectangle of rows `j` puts its index `(a, b)`: at row `16 j + a`. -/
theorem rowRect_emb (j : Dev nD) (x : S16x256.Idx) :
    (Rect.unit (s := S256x256) (rowOff j).1 S16x256.size (rowOff j).2).emb x = at2 j (x 0) (x 1) := by
  funext a; fin_cases a
  · exact Fin.ext (show 16 * j.val + 1 * (x 0).val = 16 * j.val + (x 0).val by omega)
  · exact Fin.ext (show 0 + 1 * (x 1).val = (x 1).val by omega)
/-- Where the rectangle of slot `j` puts its index. -/
theorem slotRect_emb (j : Dev nD) (x : S1x16x256.Idx) :
    (Rect.unit (s := S16x16x256) (slotOff j).1 S1x16x256.size (slotOff j).2).emb x = (ix3 j (x 1) (x 2) : S16x16x256.Idx) := by
  funext a; fin_cases a
  · have h : (x 0).val < 1 := (x 0).isLt
    exact Fin.ext (show j.val + 1 * (x 0).val = j.val by omega)
  · exact Fin.ext (show 0 + 1 * (x 1).val = (x 1).val by omega)
  · exact Fin.ext (show 0 + 1 * (x 2).val = (x 2).val by omega)

/-- Where the view of rows `j` of the partial product puts an index. -/
theorem part_emb (j : Dev nD) (x : S16x256.Idx) : (rowsAt partM (rowOff j)).view.emb x = at2 j (x 0) (x 1) := rowRect_emb j x
/-- Where the view of rows `j` of the result puts an index. -/
theorem out_emb (j : Dev nD) (x : S16x256.Idx) : (rowsAt outM (rowOff j)).view.emb x = at2 j (x 0) (x 1) := rowRect_emb j x
/-- Where the view of slot `j`, as a 16 × 256 array, puts an index. -/
theorem slot_emb (j : Dev nD) (x : S16x256.Idx) : (slotAt bufM (slotOff j)).view.emb x = (ix3 j (x 0) (x 1) : S16x16x256.Idx) := by
  show (Rect.unit (s := S16x16x256) (slotOff j).1 S1x16x256.size (slotOff j).2).emb (Shape.reshapeEquiv squeezes_S1x16x256_S16x256.numel_eq x) = _
  rw [slotRect_emb, eq_ix2 x]
  refine congrArg (fun y : S1x16x256.Idx => (ix3 j (y 1) (y 2) : S16x16x256.Idx)) (reshapeEquiv_ix2_1ab _ (x 0) (x 1))

/-! ## Contents -/

variable (m : (ℓ : Loc nD τ sig) → Buf (Elt F) ℓ)

/-- The array `x`, as staged on device `c`. -/
def xAt (c : Dev nD) : (cc0_stg0_0 : Ref sig .tc).ty.Contents (Elt F) := (win0_0.blk (0 : Fin 1)).view.read (Elt F) (m ((c : Thread nD τ).loc main_arg0))
/-- Device `c`'s columns of the gate's weights. -/
def gateAt (c : Dev nD) : (cc0_stg1_0 : Ref sig .tc).ty.Contents (Elt F) := (win0_1.blk (0 : Fin 1)).view.read (Elt F) (m ((c : Thread nD τ).loc main_arg1))
/-- Device `c`'s columns of the second factor's weights. -/
def upAt (c : Dev nD) : (cc0_stg2_0 : Ref sig .tc).ty.Contents (Elt F) := (win0_2.blk (0 : Fin 1)).view.read (Elt F) (m ((c : Thread nD τ).loc main_arg2))
/-- Device `c`'s rows of the last product's weights. -/
def downAt (c : Dev nD) : (cc0_stg3_0 : Ref sig .tc).ty.Contents (Elt F) := (win0_3.blk (0 : Fin 1)).view.read (Elt F) (m ((c : Thread nD τ).loc main_arg3))

/-- Device `c`'s partial product. -/
def prod (c : Dev nD) : FVec F S256x256 .f32 := k0_pay3 (k0_pay1 (xAt m c) (gateAt m c) (upAt m c)) (k0_pay2 (downAt m c))
/-- What device `c`'s slots hold once every device's rows have landed: slot `d` holds block `c` of device `d`'s product. -/
def inbox (c : Dev nD) : FVec F S16x16x256 .f32 := fun i => prod m (i 0) (at2 c (i 1) (i 2))
/-- The finished array: block `j` is what device `j` sums. -/
def result : FVec F S256x256 .f32 := fun i => k0_pay5 (inbox m (blockOf i)) (ix2 ⟨(i 0).val % 16, Nat.mod_lt _ (by decide)⟩ (i 1))

/-- Row `a` of block `j` of the result is row `a` of what device `j` sums. -/
theorem result_at (j : Dev nD) (a : Fin 16) (b : Fin 256) : result m (at2 j a b) = k0_pay5 (inbox m j) (ix2 a b) := by
  have h0 : (at2 j a b 0).val = 16 * j.val + a.val := rfl
  have hb : blockOf (at2 j a b) = j := Fin.ext (by show (at2 j a b 0).val / 16 = j.val; rw [h0]; omega)
  have ha : (⟨(at2 j a b 0).val % 16, Nat.mod_lt _ (by decide)⟩ : Fin 16) = a := Fin.ext (by
    show (at2 j a b 0).val % 16 = a.val; rw [h0]; have := a.isLt; omega)
  unfold result
  rw [hb, ha]
  rfl

/-! ## Transfers and stores leave these contents -/

/-- Device `c`'s rows of block `j`, written into slot `c` of device `j`. -/
theorem landed_slot (c j : Dev nD) (f : (cc0_scratch1 : Ref sig .tc).ty.Contents (Elt F)) :
    ∀ i ∈ slotSet c, (slotAt bufM (slotOff c)).view.write (Elt F) f ((rowsAt partM (rowOff j)).view.read (Elt F) (prod m c)) Finset.univ i = inbox m j i := by
  intro i hi
  rw [← slot_set] at hi
  obtain ⟨x, -, rfl⟩ := Finset.mem_map.mp hi
  rw [View.write_emb_of_mem _ _ (Finset.mem_univ x), View.read_apply, cast_cast, cast_eq, part_emb, slot_emb]
  rfl

/-- Rows copied from one device's array into the same rows of another's. -/
theorem landed_rows (c : Dev nD) (f : (cc0_stg4_0 : Ref sig .tc).ty.Contents (Elt F)) (g : FVec F S256x256 .f32) :
    ∀ i ∈ rowSet c, (rowsAt outM (rowOff c)).view.write (Elt F) f ((rowsAt outM (rowOff c)).view.read (Elt F) g) Finset.univ i = g i := by
  intro i hi
  rw [← out_set] at hi
  obtain ⟨x, -, rfl⟩ := Finset.mem_map.mp hi
  rw [View.write_emb_of_mem _ _ (Finset.mem_univ x), View.read_apply, cast_cast, cast_eq]

/-- What the device reads of its own rows of its product. -/
def ownRows (c : Dev nD) : Vec F S16x256 .f32 :=
  partM.view.readAt (Elt F) (Rect.unit (s := S256x256) (rowOff c).1 S16x256.size (rowOff c).2).toLoadRect (prod m c)

/-- The device's own rows, index by index. -/
theorem ownRows_apply (c : Dev nD) (a : Fin 16) (b : Fin 256) : ownRows m c (ix2 a b) = prod m c (at2 c a b) :=
  congrArg (prod m c) (rowRect_emb c (ix2 a b))

/-- The device's own rows, stored into its own slot. -/
theorem stored_slot (c : Dev nD) (f : (cc0_scratch1 : Ref sig .tc).ty.Contents (Elt F)) :
    ∀ i ∈ slotSet c, (bufM.access (Rect.unit (s := S16x16x256) (slotOff c).1 S1x16x256.size (slotOff c).2) : View sig .tc _ _ _).write (Elt F) f
      (k0_pay4 (ownRows m c)) Finset.univ i = inbox m c i := by
  intro i hi
  rw [← slotRect_set] at hi
  obtain ⟨x, rfl⟩ : ∃ x, (Rect.unit (s := S16x16x256) (slotOff c).1 S1x16x256.size (slotOff c).2).emb x = i := by
    rw [← Rect.map_emb_univ] at hi
    obtain ⟨x, -, h⟩ := Finset.mem_map.mp hi
    exact ⟨x, h⟩
  refine (View.write_emb_of_mem (v := bufM.access (Rect.unit (s := S16x16x256) (slotOff c).1 S1x16x256.size (slotOff c).2)) f _ (Finset.mem_univ x)).trans ?_
  refine Eq.trans ?_ (congrArg (inbox m c) (slotRect_emb c x).symm)
  have e : ∀ y : S1x16x256.Idx, k0_pay4 (ownRows m c) y = ownRows m c (ix2 (y 1) (y 2)) := fun y => by
    rw [eq_ix3 y]
    exact shapeCast_ab_1ab_apply (ownRows m c) _ (y 0) (y 1) (y 2)
  exact (e x).trans (ownRows_apply m c _ _)

/-- The device's summed rows, stored into its rows of the result. -/
theorem stored_rows (c : Dev nD) (f : (cc0_stg4_0 : Ref sig .tc).ty.Contents (Elt F)) :
    ∀ i ∈ rowSet c, (outM.access (Rect.unit (s := S256x256) (rowOff c).1 S16x256.size (rowOff c).2) : View sig .tc _ _ _).write (Elt F) f
      (k0_pay5 (inbox m c)) Finset.univ i = result m i := by
  intro i hi
  rw [← rowRect_set] at hi
  obtain ⟨x, rfl⟩ : ∃ x, (Rect.unit (s := S256x256) (rowOff c).1 S16x256.size (rowOff c).2).emb x = i := by
    rw [← Rect.map_emb_univ] at hi
    obtain ⟨x, -, h⟩ := Finset.mem_map.mp hi
    exact ⟨x, h⟩
  refine (View.write_emb_of_mem (v := outM.access (Rect.unit (s := S256x256) (rowOff c).1 S16x256.size (rowOff c).2)) f _ (Finset.mem_univ x)).trans ?_
  refine Eq.trans ?_ (congrArg (result m) (rowRect_emb c x).symm)
  have e : ∀ y : S16x256.Idx, k0_pay5 (inbox m c) y = result m (at2 c (y 0) (y 1)) := fun y =>
    (congrArg (k0_pay5 (inbox m c)) (eq_ix2 y)).trans (result_at m c (y 0) (y 1)).symm
  exact e x

end Cert.Mlp
end
-- ==== Proof.Protocol.lean ====
/-
# The protocol between the devices

Every semaphore has one round. A device's barrier semaphore is paid one unit by each other device, which hands over the
slot and the row block the receiver will fill there. The sixty-four transfer semaphores of a device are four families of
sixteen: rows sent, rows landed, finished rows sent, finished rows landed; member `s` of a family belongs to the transfer
shared with device `s`, and the member a device would share with itself is never used.
-/
module

public import proofs.«01_k».proof.Proof.Contents
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's rounds and the protocol's, whose duties are named by devices. -/
abbrev UB : Type := URounds (GSem nD τ sig) (Dev nD)
/-- The ghost state: the pipeline's and the rounds'. -/
abbrev UU : Type := UR sig nD τ × UB

local notation "𝕄" => MT nD τ sig Unit (Elt F) ℕ UU ℕ

/-- The pipeline's part of the ghost state. -/
abbrev EP : Emb (UR sig nD τ) (MT nD τ sig Unit (Elt F) ℕ UU ℕ) := embL
/-- The rounds' part of the ghost state. -/
abbrev ER : Emb UB (MT nD τ sig Unit (Elt F) ℕ UU ℕ) := embR

/-! ## Semaphores by name -/

/-- A device's semaphores: the barrier, or member `s` of family `a`. -/
abbrev Key : Type := Unit ⊕ (Fin 4 × Dev nD)
/-- The barrier's key. -/
abbrev bar : Key := .inl ()
/-- The key of member `s` of family `a`. -/
abbrev mem (a : Fin 4) (s : Dev nD) : Key := .inr (a, s)

/-- Where the transfer semaphore of family `a` for device `s` lies among all. -/
def dmaIx (a : Fin 4) (s : Dev nD) : DmaSem sig :=
  ⟨5 + 16 * a.val + s.val, by have h : s.val < 16 := s.isLt; have := a.isLt; show _ < 69; omega⟩

/-- The semaphore a key names. -/
def csem : Key → SemLoc sig
  | .inl _ => .reg barS
  | .inr p => .dma (dmaIx p.1 p.2)

/-- The key a semaphore has, if it is one of the protocol's. -/
def tag : SemLoc sig → Option Key
  | .reg _ => some bar
  | .dma q => if 5 ≤ q.val then
      some (mem ⟨(q.val - 5) / 16, by have h : q.val < 69 := q.isLt; omega⟩ ⟨(q.val - 5) % 16, Nat.mod_lt _ (by decide)⟩) else none

/-- The name of a named semaphore is that name. -/
theorem tag_csem (k : Key) : tag (csem k) = some k := by
  rcases k with ⟨⟩ | ⟨a, s⟩
  · rfl
  · have h : s.val < 16 := s.isLt
    have hv : (dmaIx a s).val = 5 + 16 * a.val + s.val := rfl
    show (if 5 ≤ (dmaIx a s).val then _ else _) = _
    rw [if_pos (by omega)]
    refine congrArg some (congrArg Sum.inr (Prod.ext (Fin.ext ?_) (Fin.ext ?_)))
    · show ((dmaIx a s).val - 5) / 16 = a.val
      omega
    · show ((dmaIx a s).val - 5) % 16 = s.val
      omega

/-- Different names are different semaphores. -/
theorem csem_injective : Function.Injective csem := fun a b h =>
  Option.some.inj ((tag_csem a).symm.trans ((congrArg tag h).trans (tag_csem b)))

/-- The semaphore named by `k` on device `c`. -/
abbrev cell (c : Dev nD) (k : Key) : GSem nD τ sig := ((c : Thread nD τ), csem k)

/-- Different devices or names are different cells. -/
theorem cell_inj {c c' : Dev nD} {k k' : Key} (h : cell c k = cell c' k') : c = c' ∧ k = k' :=
  ⟨congrArg (fun g : GSem nD τ sig => g.1.1) h, csem_injective (congrArg Prod.snd h)⟩

/-- Family 0: the partial rows have been sent. -/
theorem sem_rsSent : ∀ s : Dev nD, semAt cc0_scratch2 (semOff s) = dmaIx 0 s := by decide +kernel
/-- Family 1: partial rows have landed. -/
theorem sem_rsRecv : ∀ s : Dev nD, semAt cc0_scratch3 (semOff s) = dmaIx 1 s := by decide +kernel
/-- Family 2: the summed rows have been sent. -/
theorem sem_agSent : ∀ s : Dev nD, semAt cc0_scratch4 (semOff s) = dmaIx 2 s := by decide +kernel
/-- Family 3: summed rows have landed. -/
theorem sem_agRecv : ∀ s : Dev nD, semAt cc0_scratch5 (semOff s) = dmaIx 3 s := by decide +kernel

/-! ## What changes hands -/

variable (m : (ℓ : Loc nD τ sig) → Buf (Elt F) ℓ)

/-- Block `j` of device `c`'s partial product buffer. -/
def partPts (c j : Dev nD) (f : FVec F S256x256 .f32) : sProp 𝕄 := ((c : Thread nD τ).loc cc0_scratch0) ↦[rowSet j]{fullShare} f
/-- Slot `j` of device `c`'s sixteen slots. -/
def slotPts (c j : Dev nD) (f : FVec F S16x16x256 .f32) : sProp 𝕄 := ((c : Thread nD τ).loc cc0_scratch1) ↦[slotSet j]{fullShare} f
/-- Block `j` of device `c`'s result buffer, at a share. -/
def outPts (q : PosShare TreeShare) (c j : Dev nD) (f : FVec F S256x256 .f32) : sProp 𝕄 := ((c : Thread nD τ).loc cc0_stg4_0) ↦[rowSet j]{q} f

/-- The share of its finished rows a device lends to the transfer to device `j`. -/
abbrev lent (j : Dev nD) : PosShare TreeShare := Transfers.shareTok fullShare 16 j

/-- A block of the partial product can be handed over. -/
instance partPts_storable (c j : Dev nD) (f) : BI.Storable (upEmb : UEmb _ 𝕄) (partPts (F := F) c j f) := by unfold partPts; infer_instance
/-- A slot can be handed over. -/
instance slotPts_storable (c j : Dev nD) (f) : BI.Storable (upEmb : UEmb _ 𝕄) (slotPts (F := F) c j f) := by unfold slotPts; infer_instance
/-- A block of the result can be handed over. -/
instance outPts_storable (q) (c j : Dev nD) (f) : BI.Storable (upEmb : UEmb _ 𝕄) (outPts (F := F) q c j f) := by unfold outPts; infer_instance

/-- With its signal, device `d` hands `c` the slot and the row block `c` will fill on `d`. -/
def barPay (c d : Dev nD) : sProp 𝕄 := iprop((∃ f, slotPts (F := F) d c f) ∗ ∃ f, outPts (F := F) fullShare d c f)

/-- What a transfer semaphore of `c` hands `c`: the sent rows back, or a filled slot or row block. -/
def dmaPay (a : Fin 4) (c s : Dev nD) : sProp 𝕄 :=
  match a with
  | 0 => partPts c s (prod m c)
  | 1 => slotPts c s (inbox m c)
  | 2 => outPts (lent s) c c (result m)
  | 3 => outPts fullShare c s (result m)

/-- What each semaphore of `c` hands `c` when device `d` pays. -/
def pay (c : Dev nD) : Key → Dev nD → sProp 𝕄
  | .inl _, d => barPay c d
  | .inr p, _ => dmaPay m p.1 c p.2

/-- What a semaphore hands over can be handed over. -/
instance pay_storable (c : Dev nD) (k : Key) (d : Dev nD) : BI.Storable (upEmb : UEmb _ 𝕄) (pay m c k d) := by
  rcases k with ⟨⟩ | ⟨a, s⟩
  · show BI.Storable upEmb (barPay c d); unfold barPay; infer_instance
  · show BI.Storable upEmb (dmaPay m a c s); unfold dmaPay; split <;> infer_instance

/-- The devices other than `c`. -/
abbrev others (c : Dev nD) : Finset (Dev nD) := Finset.univ.erase c

/-- Who pays at each semaphore of `c`: at the barrier all others, at a transfer semaphore the one it is named after, if that is another device. -/
def due (c : Dev nD) : Key → Finset (Dev nD)
  | .inl _ => others c
  | .inr p => if p.2 = c then ∅ else {p.2}
/-- How much each payment counts. -/
def amt : Key → ℕ
  | .inl _ => 1
  | .inr _ => N

/-! ## The schedule -/

/-- The schedule: one round at each semaphore. -/
def sched : Rounds.Schedule (GSem nD τ sig) (Dev nD) 𝕄 where
  duties g r := if r = 0 ∧ g.1.2 = .tc then (tag g.2).elim ∅ (due g.1.1) else ∅
  unitless _ := False
  amount g _ _ := (tag g.2).elim 1 amt
  payload g _ d := (tag g.2).elim iprop(emp) fun k => pay m g.1.1 k d
  amount_pos g _ _ _ := by
    rcases tag g.2 with _ | ⟨⟨⟩ | p⟩
    · exact Nat.one_pos
    · exact Nat.one_pos
    · exact N_pos

/-- Every payload of the schedule can be handed over. -/
instance sched_storable (g : GSem nD τ sig) (r : ℕ) (d : Dev nD) : BI.Storable (upEmb : UEmb _ 𝕄) ((sched (F := F) m).payload g r d) := by
  show BI.Storable upEmb ((tag g.2).elim iprop(emp) fun k => pay m g.1.1 k d)
  rcases tag g.2 with _ | k
  · show BI.Storable upEmb iprop(emp); infer_instance
  · show BI.Storable upEmb (pay m g.1.1 k d); infer_instance

/-- The payers of a named cell's round. -/
theorem duties_cell (c : Dev nD) (k : Key) : (sched m).duties (cell c k) 0 = due c k := by
  show (if (0 : ℕ) = 0 ∧ (Proc.tc : Proc τ) = .tc then (tag (csem k)).elim ∅ (due c) else ∅) = _
  rw [if_pos ⟨rfl, rfl⟩, tag_csem]; rfl
/-- There is no later round. -/
theorem duties_later (g : GSem nD τ sig) : ∀ r, 1 ≤ r → (sched m).duties g r = ∅ :=
  fun r hr => if_neg fun h => by omega
/-- The amount of a payment at a named cell. -/
theorem amount_cell (c : Dev nD) (k : Key) (d : Dev nD) : (sched m).amount (cell c k) 0 d = amt k := by
  show (tag (csem k)).elim 1 amt = _
  rw [tag_csem]; rfl
/-- The payload of a payment at a named cell. -/
theorem payload_cell (c : Dev nD) (k : Key) (d : Dev nD) : (sched m).payload (cell c k) 0 d = pay m c k d := by
  show ((tag (csem k)).elim iprop(emp) fun k => pay m c k d) = _
  rw [tag_csem]; rfl

/-- The one payer at a transfer semaphore. -/
theorem due_mem {c s : Dev nD} (a : Fin 4) (h : s ≠ c) : due c (mem a s) = {s} := if_neg h
/-- Nobody pays at the semaphore a device would use for itself. -/
theorem due_self (c : Dev nD) (a : Fin 4) : due c (mem a c) = ∅ := if_pos rfl

/-- There are fifteen other devices. -/
theorem card_others (c : Dev nD) : (others c).card = 15 := by
  rw [Finset.card_erase_of_mem (Finset.mem_univ c), Finset.card_univ, Fintype.card_fin]; rfl

/-- The barrier's round is worth fifteen. -/
theorem expect_bar (c : Dev nD) : (sched m).expect (cell c bar) 0 = 15 := by
  unfold Schedule.expect Schedule.amountOf
  rw [duties_cell, Finset.sum_congr rfl fun d _ => amount_cell m c bar d, Finset.sum_const, smul_eq_mul]
  exact (congrArg (· * 1) (card_others c))
/-- A transfer semaphore's round is worth one transfer. -/
theorem expect_mem {c s : Dev nD} (a : Fin 4) (h : s ≠ c) : (sched m).expect (cell c (mem a s)) 0 = N := by
  unfold Schedule.expect Schedule.amountOf
  rw [duties_cell, due_mem a h, Finset.sum_singleton, amount_cell]; rfl

/-- What the barrier's round hands its owner. -/
theorem rest_bar (c : Dev nD) : bigSep ((sched m).duties (cell c bar) 0 \ ∅) (fun d => (sched m).payload (cell c bar) 0 d)
    = bigSep (others c) fun d => barPay (F := F) c d := by
  rw [Finset.sdiff_empty, duties_cell]
  exact bigSep_congr fun d _ => payload_cell m c bar d
/-- What a transfer semaphore's round hands its owner. -/
theorem rest_mem {c s : Dev nD} (a : Fin 4) (h : s ≠ c) :
    bigSep ((sched m).duties (cell c (mem a s)) 0 \ ∅) (fun d => (sched m).payload (cell c (mem a s)) 0 d) = dmaPay m a c s := by
  rw [Finset.sdiff_empty, duties_cell, due_mem a h, bigSep_singleton, payload_cell]; rfl

/-! ## What a device owes, and the order of waiting -/

/-- What device `c` owes while it has still to signal the devices `sb`, to send partial rows to `sr` and finished rows to `sa`. -/
def owed (c : Dev nD) (sb sr sa : Finset (Dev nD)) : CellTallies nD τ sig Unit :=
  (∑ j ∈ sb, tallyAt (cell j bar) () 1) + (∑ j ∈ sr, tallyAt (cell j (mem 1 c)) () N) + ∑ j ∈ sa, tallyAt (cell j (mem 3 c)) () N

/-- What device `c` owes at launch. -/
abbrev O₀ (c : Dev nD) : CellTallies nD τ sig Unit := owed c (others c) (others c) (others c)

/-- A signal takes one unit off what is owed. -/
theorem owed_bar {c j : Dev nD} {s : Finset (Dev nD)} (h : j ∉ s) (sr sa : Finset (Dev nD)) :
    owed c (insert j s) sr sa = owed c s sr sa + tallyAt (cell j bar) () 1 := by
  unfold owed; rw [Finset.sum_insert h]; ac_rfl
/-- A copy of partial rows takes one transfer off what is owed. -/
theorem owed_rs {c j : Dev nD} {s : Finset (Dev nD)} (h : j ∉ s) (sb sa : Finset (Dev nD)) :
    owed c sb (insert j s) sa = owed c sb s sa + tallyAt (cell j (mem 1 c)) () N := by
  unfold owed; rw [Finset.sum_insert h]; ac_rfl
/-- A copy of summed rows takes one transfer off what is owed. -/
theorem owed_ag {c j : Dev nD} {s : Finset (Dev nD)} (h : j ∉ s) (sb sr : Finset (Dev nD)) :
    owed c sb sr (insert j s) = owed c sb sr s + tallyAt (cell j (mem 3 c)) () N := by
  unfold owed; rw [Finset.sum_insert h]; ac_rfl
/-- In the end nothing is owed. -/
theorem owed_nil (c : Dev nD) : owed c ∅ ∅ ∅ = 0 := by
  unfold owed; simp only [Finset.sum_empty, add_zero]

/-- A sum of single tallies, at one cell. -/
theorem sum_tally (s : Finset (Dev nD)) (k : Key) (n : ℕ) (g : GSem nD τ sig) (u : Unit) :
    (∑ j ∈ s, tallyAt (cell j k) () n : CellTallies nD τ sig Unit) g u = ∑ j ∈ s, if g = cell j k then n else 0 := by
  induction s using Finset.induction_on with
  | empty => rfl
  | insert j s h ih =>
    rw [Finset.sum_insert h, Finset.sum_insert h, Pi.add_apply, Finsupp.add_apply, ih, tallyAt_apply]
    congr 1
    by_cases hg : g = cell j k
    · rw [if_pos hg, if_pos ⟨hg, rfl⟩]
    · rw [if_neg hg, if_neg fun h => hg h.1]

/-- What is owed to one cell. -/
theorem owed_apply (c : Dev nD) (sb sr sa : Finset (Dev nD)) (g : GSem nD τ sig) (u : Unit) :
    owed c sb sr sa g u = (∑ j ∈ sb, if g = cell j bar then 1 else 0) + (∑ j ∈ sr, if g = cell j (mem 1 c) then N else 0)
      + ∑ j ∈ sa, if g = cell j (mem 3 c) then N else 0 := by
  unfold owed
  rw [Pi.add_apply, Finsupp.add_apply, Pi.add_apply, Finsupp.add_apply, sum_tally, sum_tally, sum_tally]

/-- A cell at which such a sum is not zero is one of those summed. -/
theorem sum_pos_cell {s : Finset (Dev nD)} {k : Key} {n : ℕ} {g : GSem nD τ sig} (h : (∑ j ∈ s, if g = cell j k then n else 0) ≠ 0) :
    ∃ j ∈ s, g = cell j k := by
  obtain ⟨j, hj, hne⟩ := Finset.exists_ne_zero_of_sum_ne_zero h
  by_cases hg : g = cell j k
  · exact ⟨j, hj, hg⟩
  · rw [if_neg hg] at hne; exact absurd rfl hne

/-- The cells a device owes. -/
theorem owed_pos {c : Dev nD} {sb sr sa : Finset (Dev nD)} {g : GSem nD τ sig} {u : Unit} (h : 0 < owed c sb sr sa g u) :
    (∃ j ∈ sb, g = cell j bar) ∨ (∃ j ∈ sr, g = cell j (mem 1 c)) ∨ ∃ j ∈ sa, g = cell j (mem 3 c) := by
  rw [owed_apply] at h
  by_contra hn
  rw [not_or, not_or] at hn
  rw [not_imp_comm.mp sum_pos_cell hn.1, not_imp_comm.mp sum_pos_cell hn.2.1, not_imp_comm.mp sum_pos_cell hn.2.2] at h
  exact Nat.lt_irrefl 0 h

/-- Every cell of a core has one level. -/
def L (g : GSem nD τ sig) : Finset Unit := if g.1.2 = .tc then {()} else ∅
/-- The level of each semaphore. -/
def level : Key → ℕ
  | .inl _ => 1
  | .inr p => if p.1 = 1 then 2 else if p.1 = 3 then 3 else 0
/-- Barriers come first, then the partial rows, then the finished rows; everything else lies below. -/
def lv (g : GSem nD τ sig) (_ : Unit) : ℕ := (tag g.2).elim 0 level

/-- Nothing else has a level. -/
theorem L_of_ne (g : GSem nD τ sig) (h : g.1.2 ≠ .tc) : L g = ∅ := if_neg h
/-- A core's cell has one. -/
theorem L_tc (c : Dev nD) (sm : SemLoc sig) : L ((c : Thread nD τ), sm) = {()} := if_pos rfl
/-- The level of a named cell. -/
theorem lv_cell (c : Dev nD) (k : Key) (u : Unit) : lv (cell c k) u = level k := by
  unfold lv
  rw [show (cell c k).2 = csem k from rfl, tag_csem]; rfl

/-- A device may wait at a semaphore below everything it still owes. -/
theorem may_wait (c : Dev nD) (sm : SemLoc sig) (n : ℕ) (hn : (tag sm).elim 0 level ≤ n) {sb sr sa : Finset (Dev nD)}
    (hb : ∀ j ∈ sb, n < 1) (hr : ∀ j ∈ sr, n < 2) (ha : ∀ j ∈ sa, n < 3) :
    (levAts L lv : sProp 𝕄) ⊢ MayWait (c : Thread nD τ) sm () (owed c sb sr sa) :=
  MayOwe.of_cut (L := L) (lev := lv) n (fun p hp => by rw [Finset.mem_singleton.mp hp, L_tc]; exact Finset.mem_singleton_self _)
    (fun g u hg => by
      rcases owed_pos hg with ⟨j, _, rfl⟩ | ⟨j, _, rfl⟩ | ⟨j, _, rfl⟩ <;> exact Finset.mem_singleton_self _)
    (fun p hp => by rw [Finset.mem_singleton.mp hp]; exact hn)
    (fun g u hg => by
      rcases owed_pos hg with ⟨j, hj, rfl⟩ | ⟨j, hj, rfl⟩ | ⟨j, hj, rfl⟩
      · rw [lv_cell]; exact hb j hj
      · rw [lv_cell]; exact hr j hj
      · rw [lv_cell]; exact ha j hj)

end Cert.Mlp
end
-- ==== Proof.Phases.lean ====
/-
# The phases of the kernel

The kernel runs six lists of fifteen like operations, one for each other device. A list is carried out from what one of its
operations does: what each operation takes and gives back, and how what the device still owes shrinks along the list.
-/
module

public import proofs.«01_k».proof.Proof.Protocol

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop needs a variant. -/
abbrev 𝒱₀ : Variants := Variants.none

/-- The weakest precondition on core `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## A list of like operations -/

/-- The other devices, in the kernel's order. -/
abbrev peers (c : Dev nD) : List (Dev nD) := offs.map (peer c)
/-- No peer comes twice. -/
theorem peers_nodup : ∀ c : Dev nD, (peers c).Nodup := by decide +kernel
/-- The peers are all the other devices. -/
theorem peers_set : ∀ c : Dev nD, (peers c).toFinset = others c := by decide +kernel

/-- A list of operations, one for each device of `l`: operation `j` takes `A j` and gives back `B j`, and the state `S`
    follows the set of devices still to come. -/
theorem wp_run {α : Type} {Q : α → sProp 𝕄} {R : sProp 𝕄} [BI.Persistent R] (c : Dev nD) (op : Dev nD → Act F) (A B : Dev nD → sProp 𝕄) (S : Finset (Dev nD) → sProp 𝕄) (T : Finset (Dev nD))
    (step : ∀ j ∈ T, ∀ s, j ∉ s → ∀ k : Prog (TpuEff nD τ sig (Elt F) Λ₀ .tc) α,
      iprop(R ∗ A j ∗ S (insert j s)) ⊢ iprop(((B j ∗ S s) -∗ wpc c k Q) -∗ wpc c (.op (op j) fun _ => k) Q))
    (l : List (Dev nD)) (hl : l.Nodup) (hT : ∀ j ∈ l, j ∈ T) (k : Prog (TpuEff nD τ sig (Elt F) Λ₀ .tc) α) :
    iprop(R ∗ bigSep l.toFinset A ∗ S l.toFinset) ⊢ iprop(((bigSep l.toFinset B ∗ S ∅) -∗ wpc c k Q) -∗ wpc c (run (l.map op) k) Q) := by
  induction l with
  | nil =>
    rw [List.toFinset_nil, List.map_nil]
    iintro ⟨-, HA, HS⟩ Hk
    iapply Hk
    isplitl [HA]; · iexact HA
    iexact HS
  | cons j l ih =>
    have hj : j ∉ l.toFinset := fun h => (List.nodup_cons.mp hl).1 (List.mem_toFinset.mp h)
    have e (Φ : Dev nD → sProp 𝕄) : bigSep (insert j l.toFinset) Φ = iprop(Φ j ∗ bigSep l.toFinset Φ) := bigSep_insert hj
    rw [List.toFinset_cons, e, e]
    iintro ⟨#HR, ⟨HAj, HA⟩, HS⟩ Hk
    iapply (step j (hT j List.mem_cons_self) l.toFinset hj (run (l.map op) k)) $$ [HAj HS]
    · isplitr; · iexact HR
      isplitl [HAj] <;> iassumption
    iintro ⟨HB, HS⟩
    iapply (ih (List.nodup_cons.mp hl).2 (fun i hi => hT i (List.mem_cons_of_mem _ hi))) $$ [HA HS]
    · isplitr; · iexact HR
      isplitl [HA] <;> iassumption
    iintro ⟨HBs, HS⟩
    iapply Hk
    isplitl [HB HBs]
    · isplitl [HB] <;> iassumption
    iexact HS

/-- The same for the fifteen operations of a phase. -/
theorem wp_phase {α : Type} {Q : α → sProp 𝕄} {R : sProp 𝕄} [BI.Persistent R] (c : Dev nD) (op : Dev nD → Act F) (A B : Dev nD → sProp 𝕄) (S : Finset (Dev nD) → sProp 𝕄)
    (step : ∀ j, j ≠ c → ∀ s, j ∉ s → ∀ k : Prog (TpuEff nD τ sig (Elt F) Λ₀ .tc) α,
      iprop(R ∗ A j ∗ S (insert j s)) ⊢ iprop(((B j ∗ S s) -∗ wpc c k Q) -∗ wpc c (.op (op j) fun _ => k) Q))
    (k : Prog (TpuEff nD τ sig (Elt F) Λ₀ .tc) α) :
    iprop(R ∗ bigSep (others c) A ∗ S (others c))
      ⊢ iprop(((bigSep (others c) B ∗ S ∅) -∗ wpc c k Q) -∗ wpc c (run (offs.map fun r => op (peer c r)) k) Q) := by
  have h := wp_run (Q := Q) (R := R) c op A B S (others c) (fun j hj => step j (Finset.ne_of_mem_erase hj)) (peers c) (peers_nodup c)
    (fun j hj => by rw [← peers_set]; exact List.mem_toFinset.mpr hj) k
  rw [peers_set, List.map_map] at h
  exact h

/-! ## What every device knows -/

variable (m : (ℓ : Loc nD τ sig) → Buf (Elt F) ℓ)

/-- Every cell's invariant, at the names the launch allocated, and that every cell has begun its round. -/
def records (K : Dev nD × Key → ℕ) : sProp 𝕄 :=
  iprop((bigSep Finset.univ fun x : Dev nD × Key => cellInv ER (sched m) (K x) (cell x.1 x.2))
    ∗ bigSep Finset.univ fun x : Dev nD × Key => reached ER (cell x.1 x.2) 0)

/-- What every device knows stays known. -/
instance records_persistent (K : Dev nD × Key → ℕ) : BI.Persistent (records m K) := by unfold records; infer_instance

variable (K : Dev nD × Key → ℕ)

/-- Every device knows each cell's invariant. -/
theorem records_inv (c : Dev nD) (k : Key) : records m K ⊢ cellInv ER (sched m) (K (c, k)) (cell c k) :=
  (show records m K ⊢ _ by unfold records; iintro ⟨H, -⟩; iexact H).trans
    (bigSep_elim (Φ := fun x : Dev nD × Key => (cellInv ER (sched m) (K x) (cell x.1 x.2) : sProp 𝕄)) (Finset.mem_univ (c, k)))
/-- Every device knows that each cell has begun its round. -/
theorem records_reached (c : Dev nD) (k : Key) : records m K ⊢ reached ER (cell c k) 0 :=
  (show records m K ⊢ _ by unfold records; iintro ⟨-, H⟩; iexact H).trans
    (bigSep_elim (Φ := fun x : Dev nD × Key => (reached ER (cell x.1 x.2) 0 : sProp 𝕄)) (Finset.mem_univ (c, k)))

/-- What a device owes, whatever it has waited for. -/
def owing (c : Dev nD) (O : CellTallies nD τ sig Unit) : sProp 𝕄 := iprop(∃ W, owes (c : Thread nD τ) O W)

section Steps
variable {α : Type} {k : Prog (TpuEff nD τ sig (Elt F) Λ₀ .tc) α} {c j : Dev nD} {s : Finset (Dev nD)}

/-- What a signal to `j` takes: its duty, and the slot and the row block `j` will fill. -/
def sigPre (c j : Dev nD) : sProp 𝕄 :=
  iprop(dutyTok ER (cell j bar) 0 c ∗ (∃ f, slotPts (F := F) c j f) ∗ ∃ f, outPts (F := F) fullShare c j f)

/-- A signal to another device. -/
theorem step_signal {Q : α → sProp 𝕄} (hj : j ≠ c) (hs : j ∉ s) (sr sa : Finset (Dev nD)) :
    iprop(records m K ∗ sigPre (F := F) c j ∗ owing c (owed c (insert j s) sr sa))
      ⊢ iprop(((emp ∗ owing c (owed c s sr sa)) -∗ wpc c k Q) -∗ wpc c (.op (sigOp j) fun _ => k) Q) := by
  unfold sigPre owing
  iintro ⟨#HR, ⟨Htok, Hslot, Hout⟩, ⟨%W, HO⟩⟩ Hk
  have hp : barPay (F := F) j c ⊢ (sched m).payload ((j : Thread nD τ), .reg barS) 0 c := Entails.of_eq (payload_cell m j bar c).symm
  iapply (Rounds.wp_signal 𝒱₀ ER (sched m) (c : Thread nD τ) none (dst := (j : Thread nD τ)) (κ := K (j, bar)) (r := 0) (d := c)
      ((duties_cell m j bar).symm ▸ Finset.mem_erase.mpr ⟨hj.symm, Finset.mem_univ _⟩) ((amount_cell m j bar c).trans (by decide)) ()
      (owed c s sr sa) (owed_bar hs sr sa)) $$ [HO Htok Hslot Hout]
  · isplitr; · iapply (records_inv m K j bar); iexact HR
    isplitl [HO]; · iexact HO
    isplitl [Htok]; · iexact Htok
    isplitl
    · iapply hp
      unfold barPay
      isplitl [Hslot] <;> iassumption
    iapply (records_reached m K j bar); iexact HR
  iintro HO
  iapply Hk
  isplitr; · iempintro
  iexists W; iexact HO

/-- A transfer to device `j` that pays member `j` of family `a` here and member `c` of family `b` there. -/
theorem step_send {Q : α → sProp 𝕄} (hj : j ≠ c) (a b : Fin 4) {q₁ q₂ : DmaSem sig} (h₁ : q₁ = dmaIx a j) (h₂ : q₂ = dmaIx b c)
    {sp sp' : Space} {t : Shape} {e : EltTy} {src : Memref sig .tc sp t e} {dst : Memref sig .tc sp' t e}
    {hsc : (show Memref sig (Dev.tc j : Thread nD τ).2.kind sp' t e from dst).view.ref.isScScratch = false}
    {hsrc : src.view.WordExact} {hdst : dst.view.WordExact} {hsem : DmaTarget.Typed sp (.dma q₂) (.remote (Dev.tc j : Thread nD τ) dst (.dma q₁) hsc)}
    {q : PosShare TreeShare} {fs : Buf (Elt F) (src.view.loc (c : Thread nD τ))} {fd : Buf (Elt F) (dst.view.loc (j : Thread nD τ))}
    {O₁ O : CellTallies nD τ sig Unit} (hN : dst.view.amount (.dma q₂) = N)
    (hpay₁ : (src.view.loc (c : Thread nD τ) ↦[src.view.set]{q} fs : sProp 𝕄) ⊢ dmaPay m a c j)
    (hpay₂ : (dst.view.loc (j : Thread nD τ) ↦[dst.view.set]{fullShare} (dst.view.write (Elt F) fd (src.view.read (Elt F) fs) Finset.univ) : sProp 𝕄) ⊢ dmaPay m b j c)
    (hO : O₁ = O + tallyAt (cell j (mem b c)) () N) :
    iprop(records m K ∗ iprop((src.view.loc (c : Thread nD τ) ↦[src.view.set]{q} fs) ∗ (dst.view.loc (j : Thread nD τ) ↦[dst.view.set]{fullShare} fd)
          ∗ dutyTok ER (cell c (mem a j)) 0 j ∗ dutyTok ER (cell j (mem b c)) 0 c) ∗ owing c O₁)
      ⊢ iprop(((cred (tallyAt (cell c (mem a j)) () N) ∗ owing c O) -∗ wpc c k Q)
        -∗ wpc c (.op (.enqueueDma src (.remote (Dev.tc j : Thread nD τ) dst (.dma q₁) hsc) (.dma q₂) hsrc hdst hsem) fun _ => k) Q) := by
  subst h₁ h₂
  unfold owing
  iintro ⟨#HR, ⟨Hsrc, Hdst, Ht, Ht'⟩, ⟨%W, HO⟩⟩ Hk
  have h := Rounds.wp_send_pointsTo (defs := defs₀ (F := F)) (Γ := .empty) (Q := Q) (Es := Set.univ) (k := fun _ => k) 𝒱₀ ER (sched m) (c : Thread nD τ) none
    (c' := Dev.tc j) (src := src) (dst := dst) (hsc := hsc) (sS := csem (mem a j)) (sem := csem (mem b c)) (hsrc := hsrc) (hdst := hdst) (hsem := hsem)
    (q := q) (fs := fs) (fd := fd) (κ₁ := K (c, mem a j)) (κ₂ := K (j, mem b c)) (r₁ := 0) (r₂ := 0) (d₁ := j) (d₂ := c)
    (by rw [duties_cell m c (mem a j), due_mem a hj]; exact Finset.mem_singleton_self _)
    (by rw [duties_cell m j (mem b c), due_mem b hj.symm]; exact Finset.mem_singleton_self _)
    () () N hN (amount_cell m c (mem a j) j) (amount_cell m j (mem b c) c) (O₀ := O₁) O hO (W := W)
    (hpay₁.trans (Entails.of_eq (payload_cell m c (mem a j) j).symm)) (hpay₂.trans (Entails.of_eq (payload_cell m j (mem b c) c).symm))
  iapply h $$ [Hsrc Hdst HO Ht Ht']
  · isplitr; · iapply (records_inv m K c (mem a j)); iexact HR
    isplitr; · iapply (records_inv m K j (mem b c)); iexact HR
    isplitl [Hsrc]; · iexact Hsrc
    isplitl [Hdst]; · iexact Hdst
    isplitl [HO]; · iexact HO
    isplitl [Ht]; · iexact Ht
    isplitr; · iapply (records_reached m K c (mem a j)); iexact HR
    isplitl [Ht']; · iexact Ht'
    iapply (records_reached m K j (mem b c)); iexact HR
  iintro ⟨Hc, HO⟩
  iapply Hk
  isplitl [Hc]; · iexact Hc
  iexists W; iexact HO

/-- What sending partial rows to `j` takes: the rows, the slot on `j`, and the two duties. -/
def rsPre (c j : Dev nD) : sProp 𝕄 :=
  iprop(partPts c j (prod m c) ∗ (∃ f, slotPts (F := F) j c f) ∗ dutyTok ER (cell c (mem 0 j)) 0 j ∗ dutyTok ER (cell j (mem 1 c)) 0 c)

/-- A transfer of partial rows to another device. -/
theorem step_rs {Q : α → sProp 𝕄} (hj : j ≠ c) (hs : j ∉ s) (sb sa : Finset (Dev nD)) :
    iprop(records m K ∗ rsPre m c j ∗ owing c (owed c sb (insert j s) sa))
      ⊢ iprop(((cred (tallyAt (cell c (mem 0 j)) () N) ∗ owing c (owed c sb s sa)) -∗ wpc c k Q)
        -∗ wpc c (.op (rsOp j (rowOff j) (slotOff c) (semOff j) (semOff c)) fun _ => k) Q) := by
  unfold rsPre partPts slotPts
  iintro ⟨#HR, ⟨Hsrc, ⟨%f, Hdst⟩, Ht, Ht'⟩, HO⟩ Hk
  have h := step_send m K (k := k) (Q := Q) hj 0 1 (sem_rsSent j) (sem_rsRecv c) (src := rowsAt partM (rowOff j)) (dst := slotAt bufM (slotOff c)) (hsc := rfl)
    (hsrc := View.wordExact_bits rfl) (hdst := (View.wordExact_bits rfl).reshape _ _) (hsem := ⟨⟨rfl, Or.inl rfl⟩, trivial⟩)
    (q := fullShare) (fs := prod m c) (fd := f) rfl (by rw [part_set]; rfl)
    (by rw [slot_set]; exact Entails.of_eq (pointsTo_congr (landed_slot m c j f))) (owed_rs hs sb sa)
  rw [part_set, slot_set] at h
  iapply h $$ [Hsrc Hdst Ht Ht' HO]
  · isplitr; · iexact HR
    isplitr [HO]
    · isplitl [Hsrc]; · iexact Hsrc
      isplitl [Hdst]; · iexact Hdst
      isplitl [Ht] <;> iassumption
    iexact HO
  iexact Hk

/-- What sending finished rows to `j` takes: the share lent to it, the row block on `j`, and the two duties. -/
def agPre (c j : Dev nD) : sProp 𝕄 :=
  iprop(outPts (lent j) c c (result m) ∗ (∃ f, outPts (F := F) fullShare j c f) ∗ dutyTok ER (cell c (mem 2 j)) 0 j ∗ dutyTok ER (cell j (mem 3 c)) 0 c)

/-- A transfer of finished rows to another device. -/
theorem step_ag {Q : α → sProp 𝕄} (hj : j ≠ c) (hs : j ∉ s) (sb sr : Finset (Dev nD)) :
    iprop(records m K ∗ agPre m c j ∗ owing c (owed c sb sr (insert j s)))
      ⊢ iprop(((cred (tallyAt (cell c (mem 2 j)) () N) ∗ owing c (owed c sb sr s)) -∗ wpc c k Q)
        -∗ wpc c (.op (agOp j (rowOff c) (semOff j) (semOff c)) fun _ => k) Q) := by
  unfold agPre outPts
  iintro ⟨#HR, ⟨Hsrc, ⟨%f, Hdst⟩, Ht, Ht'⟩, HO⟩ Hk
  have h := step_send m K (k := k) (Q := Q) hj 2 3 (sem_agSent j) (sem_agRecv c) (src := rowsAt outM (rowOff c)) (dst := rowsAt outM (rowOff c)) (hsc := rfl)
    (hsrc := View.wordExact_bits rfl) (hdst := View.wordExact_bits rfl) (hsem := ⟨⟨rfl, Or.inl rfl⟩, trivial⟩)
    (q := lent j) (fs := result m) (fd := f) rfl (by rw [out_set]; rfl)
    (by rw [out_set]; exact Entails.of_eq (pointsTo_congr (landed_rows c f (result m)))) (owed_ag hs sb sr)
  rw [out_set] at h
  iapply h $$ [Hsrc Hdst Ht Ht' HO]
  · isplitr; · iexact HR
    isplitr [HO]
    · isplitl [Hsrc]; · iexact Hsrc
      isplitl [Hdst]; · iexact Hdst
      isplitl [Ht] <;> iassumption
    iexact HO
  iexact Hk

/-- What a wait at member `j` of family `a` takes, -/
def waitPre (a : Fin 4) (c j : Dev nD) : sProp 𝕄 := iprop(cred (tallyAt (cell c (mem a j)) () N) ∗ atPos ER (cell c (mem a j)) 0 ∅ 0)
/-- and what it gives. -/
def waitPost (a : Fin 4) (c j : Dev nD) : sProp 𝕄 := iprop(dmaPay m a c j ∗ atPos ER (cell c (mem a j)) 1 ∅ 0)

/-- A wait at member `j` of family `a`, whichever memory the operation names, while what is owed lies above it. -/
theorem step_wait {Q : α → sProp 𝕄} (hj : j ≠ c) (a : Fin 4) {q : DmaSem sig} (hq : q = dmaIx a j) {sp sp' : Space} {t t' : Shape} {e e' : EltTy}
    {src : Memref sig .tc sp' t' e'} {κ' : Kind} {dst : Memref sig κ' sp t e} {hsrc : src.view.WordExact} {hdst : dst.view.WordExact}
    (hN : dst.view.dmaCredit = N) {O : CellTallies nD τ sig Unit}
    (hO : (levAts L lv : sProp 𝕄) ⊢ MayWait (c : Thread nD τ) (csem (mem a j)) () O) :
    iprop(iprop(records m K ∗ levAts L lv) ∗ waitPre (F := F) a c j ∗ owing c O)
      ⊢ iprop(((waitPost m a c j ∗ owing c O) -∗ wpc c k Q) -∗ wpc c (.op (.waitDma2 q src dst hsrc hdst) fun _ => k) Q) := by
  subst hq
  unfold waitPre waitPost owing
  iintro ⟨⟨#HR, #Hl⟩, ⟨Hc, Hat⟩, ⟨%W, HO⟩⟩ Hk
  have h := Rounds.wp_wait_rest_token (defs := defs₀ (F := F)) (Γ := .empty) (Q := Q) (Es := Set.univ) (k := fun _ => k) 𝒱₀ ER (sched m) (c : Thread nD τ) none
    (κ := K (c, mem a j)) (sm := csem (mem a j)) (k' := N) (w := .waitDma2 (dmaIx a j) src dst hsrc hdst)
    (fun P => by rw [wpE_waitDma2_eq, hN]; rfl) (Set.mem_univ _) () (O := O) (W := W) (R := 0) (m := 0) (T := ∅)
    (by rw [Nat.zero_add]; exact (expect_mem m a hj).symm)
  rw [show bigSep ((sched m).duties ((c : Thread nD τ), csem (mem a j)) 0 \ ∅) (fun d => (sched m).payload ((c : Thread nD τ), csem (mem a j)) 0 d)
    = dmaPay m a c j from rest_mem m a hj] at h
  iapply h $$ [Hc HO Hat]
  · isplitr; · iapply (records_inv m K c (mem a j)); iexact HR
    isplitl [Hc]; · iexact Hc
    isplitl [HO]; · iexact HO
    isplitr; · iapply hO; iexact Hl
    iexact Hat
  iintro ⟨HO, Hat, -, Hpay⟩
  iapply Hk
  isplitl [Hpay Hat]
  · isplitl [Hpay] <;> iassumption
  iexists (insert (csem (mem a j), ()) W); iexact HO

/-- The wait at the barrier, for one unit from every other device. -/
theorem step_barrier {Q : α → sProp 𝕄} :
    iprop(iprop(records m K ∗ levAts L lv) ∗ iprop(cred (tallyAt (cell c bar) () 15) ∗ atPos ER (cell c bar) 0 ∅ 0)
        ∗ owing c (owed c ∅ (others c) (others c)))
      ⊢ iprop((((bigSep (others c) fun d => barPay (F := F) c d) ∗ atPos ER (cell c bar) 1 ∅ 0 ∗ owing c (owed c ∅ (others c) (others c))) -∗ wpc c k Q)
        -∗ wpc c (.op (.semWait barS (15#32 : BitVec 32).toInt) fun _ => k) Q) := by
  unfold owing
  iintro ⟨⟨#HR, #Hl⟩, ⟨Hc, Hat⟩, ⟨%W, HO⟩⟩ Hk
  have h := Rounds.wp_wait_rest_token (defs := defs₀ (F := F)) (Γ := .empty) (Q := Q) (Es := Set.univ) (k := fun _ => k) 𝒱₀ ER (sched m) (c : Thread nD τ) none
    (κ := K (c, bar)) (sm := csem bar) (w := .semWait barS (15#32 : BitVec 32).toInt)
    (wpE_semWait_eq 𝒱₀ (c : Thread nD τ) none Set.univ) (Set.mem_univ _) () (O := owed c ∅ (others c) (others c)) (W := W) (R := 0) (m := 0) (T := ∅)
    (by rw [Nat.zero_add]; exact (expect_bar m c).symm)
  rw [show bigSep ((sched m).duties ((c : Thread nD τ), csem bar) 0 \ ∅) (fun d => (sched m).payload ((c : Thread nD τ), csem bar) 0 d)
    = bigSep (others c) fun d => barPay (F := F) c d from rest_bar m c] at h
  iapply h $$ [Hc HO Hat]
  · isplitr; · iapply (records_inv m K c bar); iexact HR
    isplitl [Hc]; · iexact Hc
    isplitl [HO]; · iexact HO
    isplitr
    · iapply (may_wait (F := F) c (csem bar) 1 (by rw [tag_csem]; exact le_rfl) (sb := ∅) (fun j hj => absurd hj (Finset.notMem_empty j))
        (fun _ _ => by decide) (fun _ _ => by decide))
      iexact Hl
    iexact Hat
  iintro ⟨HO, Hat, -, Hpay⟩
  iapply Hk
  isplitl [Hpay]; · iexact Hpay
  isplitl [Hat]; · iexact Hat
  iexists (insert (csem bar, ()) W); iexact HO

end Steps

end Cert.Mlp
end
-- ==== Proof.Body.lean ====
/-
# The kernel on one device

What a device's kernel starts from and leaves, and its run, phase by phase.
-/
module

public import proofs.«01_k».proof.Proof.Phases
public import proofs.«01_k».proof.Proof.Gen.KernelIdeal.Points

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Splitting -/

/-- One conjunct and the others. -/
theorem split_others (c : Dev nD) (Φ : Dev nD → sProp 𝕄) : bigSep Finset.univ Φ = iprop(Φ c ∗ bigSep (others c) Φ) :=
  bigSep_univ_at Φ c

/-- A buffer is one piece of a partition and the others. -/
theorem pieces {ℓ : Loc nD τ sig} (S : Dev nD → Finset (Idx ℓ)) (hcov : Finset.univ.biUnion S = Finset.univ)
    (hd : ∀ i j : Dev nD, i ≠ j → Disjoint (S i) (S j)) (c : Dev nD) (q : PosShare TreeShare) (f : Buf (Elt F) ℓ) :
    (ℓ ↦{q} f : sProp 𝕄) = iprop((ℓ ↦[S c]{q} f) ∗ bigSep (others c) fun j => ℓ ↦[S j]{q} f) := by
  rw [← hcov, pointsTo_biUnion Finset.univ S fun i _ j _ h => hd i j h, split_others c]

/-- The partial product's buffer is the device's own block and the others'. -/
theorem part_pieces (c : Dev nD) (f : FVec F S256x256 .f32) :
    (((c : Thread nD τ).loc cc0_scratch0) ↦{fullShare} f : sProp 𝕄) = iprop(partPts c c f ∗ bigSep (others c) fun j => partPts c j f) :=
  pieces (ℓ := (c : Thread nD τ).loc cc0_scratch0) rowSet rowSet_cover (fun _ _ h => rowSet_disjoint h) c fullShare f
/-- The buffer of slots is the device's own slot and the others'. -/
theorem slot_pieces (c : Dev nD) (f : FVec F S16x16x256 .f32) :
    (((c : Thread nD τ).loc cc0_scratch1) ↦{fullShare} f : sProp 𝕄) = iprop(slotPts c c f ∗ bigSep (others c) fun j => slotPts c j f) :=
  pieces (ℓ := (c : Thread nD τ).loc cc0_scratch1) slotSet slotSet_cover (fun _ _ h => slotSet_disjoint h) c fullShare f
/-- The result's buffer is the device's own block and the others'. -/
theorem out_pieces (c : Dev nD) (f : FVec F S256x256 .f32) :
    (((c : Thread nD τ).loc cc0_stg4_0) ↦{fullShare} f : sProp 𝕄) = iprop(outPts fullShare c c f ∗ bigSep (others c) fun j => outPts fullShare c j f) :=
  pieces (ℓ := (c : Thread nD τ).loc cc0_stg4_0) rowSet rowSet_cover (fun _ _ h => rowSet_disjoint h) c fullShare f

/-- The share of the finished rows a device keeps, and the shares it lends. -/
theorem lend (c : Dev nD) (f : FVec F S256x256 .f32) :
    (outPts fullShare c c f : sProp 𝕄)
      ⊣⊢ iprop(outPts (Transfers.shareDrop fullShare 16) c c f ∗ outPts (lent c) c c f ∗ bigSep (others c) fun j => outPts (lent j) c c f) := by
  have h : (((c : Thread nD τ).loc cc0_stg4_0) ↦[rowSet c]{fullShare} f : sProp 𝕄) ⊣⊢ _ := Transfers.pointsTo_toks fullShare 16
  have e : (bigSep Finset.univ fun i : Fin 16 => (((c : Thread nD τ).loc cc0_stg4_0) ↦[rowSet c]{Transfers.shareTok fullShare 16 i} f : sProp 𝕄))
      = iprop(outPts (lent c) c c f ∗ bigSep (others c) fun j => outPts (lent j) c c f) := split_others c fun j => outPts (lent j) c c f
  rw [e] at h
  exact h

/-- Both of two facts about each device. -/
theorem zip (c : Dev nD) (Φ Ψ : Dev nD → sProp 𝕄) : iprop(bigSep (others c) Φ ∗ bigSep (others c) Ψ) ⊢ bigSep (others c) fun j => iprop(Φ j ∗ Ψ j) :=
  Entails.of_eq (bigSep_sep' (others c) Φ Ψ).symm
/-- The two facts apart again. -/
theorem unzip (c : Dev nD) (Φ Ψ : Dev nD → sProp 𝕄) : (bigSep (others c) fun j => iprop(Φ j ∗ Ψ j)) ⊢ iprop(bigSep (others c) Φ ∗ bigSep (others c) Ψ) :=
  Entails.of_eq (bigSep_sep' (others c) Φ Ψ)

/-- A fact about every member of a family: the unused one and the others. -/
def fam (c : Dev nD) (a : Fin 4) (Φ : Key → sProp 𝕄) : sProp 𝕄 := iprop(Φ (mem a c) ∗ bigSep (others c) fun j => Φ (mem a j))

/-- A fact about every semaphore of a device, by families. -/
theorem keys (c : Dev nD) (Φ : Key → sProp 𝕄) : bigSep Finset.univ Φ = iprop(Φ bar ∗ fam c 0 Φ ∗ fam c 1 Φ ∗ fam c 2 Φ ∗ fam c 3 Φ) := by
  have h : ∀ a : Fin 4, (bigSep Finset.univ fun j : Dev nD => Φ (.inr (a, j))) = fam c a Φ := fun a => split_others c fun j => Φ (mem a j)
  rw [bigSep_univ_sum, bigSep_univ_prod, bigSep_univ_eq_bigSepL [()] (by decide) (by decide), bigSepL_singleton,
    bigSep_univ_eq_bigSepL [0, 1, 2, 3] (by decide) (by decide), bigSepL_cons_cons, bigSepL_cons_cons, bigSepL_cons_cons, bigSepL_singleton,
    h, h, h, h]
  rfl

/-! ## Before and after -/

variable (m : (ℓ : Loc nD τ sig) → Buf (Elt F) ℓ)

/-- The duties device `c` pays device `j`, and those `j`'s transfers pay on its behalf. -/
def payToks (c j : Dev nD) : sProp 𝕄 :=
  iprop(dutyTok ER (cell j bar) 0 c ∗ dutyTok ER (cell c (mem 0 j)) 0 j ∗ dutyTok ER (cell j (mem 1 c)) 0 c
    ∗ dutyTok ER (cell c (mem 2 j)) 0 j ∗ dutyTok ER (cell j (mem 3 c)) 0 c)

/-- What device `c` alone holds: its positions and the duties it pays. -/
def linear (c : Dev nD) : sProp 𝕄 :=
  iprop((bigSep Finset.univ fun k : Key => atPos ER (cell c k) 0 ∅ 0) ∗ bigSep (others c) fun j => payToks (F := F) c j)

/-- The credits of device `c`: its barrier's and its landings'. -/
def credits (c : Dev nD) : sProp 𝕄 :=
  iprop(cred (tallyAt (cell c bar) () 15) ∗ (bigSep (others c) fun j => cred (tallyAt (cell c (mem 1 j)) () N))
    ∗ bigSep (others c) fun j => cred (tallyAt (cell c (mem 3 j)) () N))

/-- What a device starts with. -/
def start (c : Dev nD) : sProp 𝕄 := iprop((∃ K, records m K ∗ linear (F := F) c) ∗ credits (F := F) c ∗ levAts L lv)

/-- The two scratch buffers at some contents. -/
def scratch (c : Dev nD) : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

/-- Every semaphore of a device at zero. -/
def zeros (c : Dev nD) : sProp 𝕄 := bigSep Finset.univ fun k : Key => semVal (cell c k) 0

/-- What the device holds before its body. -/
def Φ₀ (c : Dev nD) : sProp 𝕄 := iprop(start m c ∗ scratch (F := F) c)
/-- What the device holds after its body. -/
def Φ₁ (c : Dev nD) : sProp 𝕄 := iprop(scratch (F := F) c ∗ zeros (F := F) c)

/-- The windows' contents, what is held between, and what is owed. -/
def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => gateAt m c
    | ⟨2, _⟩ => upAt m c
    | ⟨3, _⟩ => downAt m c
    | ⟨4, _⟩ => result m
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The run -/

/-- What is left of the run once the devices have met: both exchanges and the waits. -/
def posTail (c : Dev nD) : sProp 𝕄 :=
  iprop(fam (F := F) c 0 (fun k => atPos ER (cell c k) 0 ∅ 0) ∗ fam (F := F) c 1 (fun k => atPos ER (cell c k) 0 ∅ 0)
    ∗ fam (F := F) c 2 (fun k => atPos ER (cell c k) 0 ∅ 0) ∗ fam (F := F) c 3 (fun k => atPos ER (cell c k) 0 ∅ 0))

section Run
variable (K : Dev nD × Key → ℕ)

/-- A family of semaphores whose round is over closes. -/
theorem close_fam (c : Dev nD) (a : Fin 4) :
    iprop(records m K ∗ iprop(atPos ER (cell c (mem a c)) 0 ∅ 0 ∗ bigSep (others c) fun j => atPos ER (cell c (mem a j)) 1 ∅ 0))
      ⊢ |={Set.univ}=> (fam c a fun k => semVal (cell c k) 0 : sProp 𝕄) := by
  unfold fam
  iintro ⟨#HR, Hc, Hs⟩
  imod (Rounds.cell_close ER (sched m) (g := cell c (mem a c)) (Set.mem_univ (K (c, mem a c))) (fun h => h) (R := 0) (fun r _ => by
      rcases r with _ | r
      · rw [duties_cell, due_self]
      · exact duties_later m _ _ (Nat.le_add_left 1 r))) $$ [Hc] with Hz
  · isplitr; · iapply (records_inv m K c (mem a c)); iexact HR
    iexact Hc
  imod ((BI.bigSep_with_persistent (S := others c) (R := records m K) (Φ := fun j => atPos ER (cell c (mem a j)) 1 ∅ 0)
      (Ψ := fun j => iprop(|={Set.univ}=> semVal (cell c (mem a j)) 0)) fun j _ =>
        (sep_mono_left (records_inv m K c (mem a j))).trans
          (Rounds.cell_close ER (sched m) (Set.mem_univ (K (c, mem a j))) (fun h => h) (R := 1) (duties_later m _))).trans (bigSep_fupd _ _)) $$ [Hs] with Hzs
  · isplitr; · iexact HR
    iexact Hs
  imodintro
  isplitl [Hz] <;> iassumption

/-- What the run holds when it comes to the barrier. -/
def midway (c : Dev nD) : sProp 𝕄 :=
  iprop(iprop(partPts c c (prod m c) ∗ bigSep (others c) fun j => partPts c j (prod m c))
    ∗ (∃ f, slotPts (F := F) c c f) ∗ (∃ f, outPts (F := F) fullShare c c f)
    ∗ iprop((bigSep (others c) fun j => dutyTok ER (cell c (mem 0 j)) 0 j) ∗ bigSep (others c) fun j => dutyTok ER (cell j (mem 1 c)) 0 c)
    ∗ iprop((bigSep (others c) fun j => dutyTok ER (cell c (mem 2 j)) 0 j) ∗ bigSep (others c) fun j => dutyTok ER (cell j (mem 3 c)) 0 c)
    ∗ credits (F := F) c ∗ atPos ER (cell c bar) 0 ∅ 0 ∗ posTail (F := F) c ∗ owing (F := F) c (owed c ∅ (others c) (others c)))

/-- What the run leaves. -/
def done (c : Dev nD) : sProp 𝕄 :=
  iprop((((c : Thread nD τ).loc cc0_scratch0) ↦{fullShare} prod m c) ∗ (((c : Thread nD τ).loc cc0_scratch1) ↦{fullShare} inbox m c)
    ∗ (((c : Thread nD τ).loc cc0_stg4_0) ↦{fullShare} result m) ∗ zeros (F := F) c ∗ owing (F := F) c 0)

/-- Reading the whole buffer of slots gives its contents. -/
theorem read_inbox (c : Dev nD) : bufM.view.readAt (Elt F) (Rect.unit (s := S16x16x256) ![0, 0, 0] S16x16x256.size inb_S16x16x256_S16x16x256_0_0_0).toLoadRect (inbox m c)
    = inbox m c := Memref.readAt_unit_zero (Elt F) cc0_scratch1 (funext fun a => by fin_cases a <;> rfl) _ _

/-- The fifteen waits at a family. -/
theorem wait_phase {Q : PUnit → sProp 𝕄} (c : Dev nD) (a : Fin 4) (op : Dev nD → Act F) (O : CellTallies nD τ sig Unit) (k : Prog (TpuEff nD τ sig (Elt F) Λ₀ .tc) PUnit)
    (step : ∀ j, j ≠ c → ∀ k : Prog (TpuEff nD τ sig (Elt F) Λ₀ .tc) PUnit,
      iprop(iprop(records m K ∗ levAts L lv) ∗ waitPre (F := F) a c j ∗ owing c O) ⊢ iprop(((waitPost m a c j ∗ owing c O) -∗ wpc c k Q) -∗ wpc c (.op (op j) fun _ => k) Q)) :
    iprop(iprop(records m K ∗ levAts L lv) ∗ iprop((bigSep (others c) fun j => cred (tallyAt (cell c (mem a j)) () N))
          ∗ bigSep (others c) fun j => atPos ER (cell c (mem a j)) 0 ∅ 0) ∗ owing c O)
      ⊢ iprop((((bigSep (others c) fun j => dmaPay m a c j) ∗ (bigSep (others c) fun j => atPos ER (cell c (mem a j)) 1 ∅ 0) ∗ owing c O) -∗ wpc c k Q)
        -∗ wpc c (run (offs.map fun r => op (peer c r)) k) Q) := by
  iintro ⟨#HR, ⟨Hc, Hat⟩, HO⟩ Hk
  iapply (wp_phase (Q := Q) (R := iprop(records m K ∗ levAts L lv)) c op (waitPre a c) (waitPost m a c) (fun _ => owing c O) (fun j hj _ _ k => step j hj k) k) $$ [Hc Hat HO]
  · isplitr; · iexact HR
    isplitr [HO]
    · iapply (zip c (fun j => cred (tallyAt (cell c (mem a j)) () N)) fun j => atPos ER (cell c (mem a j)) 0 ∅ 0)
      isplitl [Hc] <;> iassumption
    iexact HO
  iintro ⟨HB, HO⟩
  ihave HB := (show bigSep (others c) (waitPost m a c) ⊢ _ from unzip c (fun j => dmaPay m a c j) fun j => atPos ER (cell c (mem a j)) 1 ∅ 0) $$ HB
  icases HB with ⟨Hp, Hat⟩
  iapply Hk
  isplitl [Hp]; · iexact Hp
  isplitl [Hat] <;> iassumption

/-- Nothing is owed after the finished rows are sent, so any wait is allowed. -/
theorem may_wait_nil (c : Dev nD) (sm : SemLoc sig) : (levAts L lv : sProp 𝕄) ⊢ MayWait (c : Thread nD τ) sm () 0 := by
  rw [MayWait_zero]; iintro -; iempintro

/-- What the transfers of partial rows take, gathered. -/
theorem rs_ready (c : Dev nD) :
    iprop((bigSep (others c) fun j => partPts c j (prod m c)) ∗ (bigSep (others c) fun j => iprop(∃ f, slotPts (F := F) j c f))
        ∗ (bigSep (others c) fun j => dutyTok ER (cell c (mem 0 j)) 0 j) ∗ bigSep (others c) fun j => dutyTok ER (cell j (mem 1 c)) 0 c)
      ⊢ bigSep (others c) (rsPre m c) :=
  (sep_mono_right ((sep_mono_right (zip c _ _)).trans (zip c _ _))).trans (zip c _ _)
/-- What the transfers of finished rows take, gathered. -/
theorem ag_ready (c : Dev nD) :
    iprop((bigSep (others c) fun j => outPts (lent j) c c (result m)) ∗ (bigSep (others c) fun j => iprop(∃ f, outPts (F := F) fullShare j c f))
        ∗ (bigSep (others c) fun j => dutyTok ER (cell c (mem 2 j)) 0 j) ∗ bigSep (others c) fun j => dutyTok ER (cell j (mem 3 c)) 0 c)
      ⊢ bigSep (others c) (agPre m c) :=
  (sep_mono_right ((sep_mono_right (zip c _ _)).trans (zip c _ _))).trans (zip c _ _)

/-- Storing the sum leaves the device's own rows of the result, lent out in shares. -/
theorem landed_sum (c : Dev nD) (f : FVec F S256x256 .f32) :
    iprop(((c : Thread nD τ).loc cc0_stg4_0) ↦[rowSet c]{fullShare}
      (outM.access (Rect.unit (s := S256x256) (rowOff c).1 S16x256.size (rowOff c).2)).write (Elt F) f (k0_pay5 (inbox m c)) Finset.univ)
      ⊢ iprop(outPts (Transfers.shareDrop fullShare 16) c c (result m) ∗ outPts (lent c) c c (result m)
          ∗ bigSep (others c) fun j => outPts (lent j) c c (result m)) :=
  (Entails.of_eq (pointsTo_congr (stored_rows m c f))).trans (lend c (result m)).1

set_option maxHeartbeats 1600000 in
/-- The run from the barrier on. -/
theorem wp_tail {Q : PUnit → sProp 𝕄} (c : Dev nD) :
    iprop(iprop(records m K ∗ levAts L lv) ∗ midway m c)
      ⊢ iprop((done m c -∗ Q ⟨⟩)
        -∗ wpc c (tail (rowOff c) (slotOff c) (fun r => rsOp (peer c r) (rowOff (peer c r)) (slotOff c) (semOff (peer c r)) (semOff c))
          (fun r => rsRecvOp (semOff (peer c r)) (rowOff (peer c r)) (slotOff (peer c r)))
          (fun r => agOp (peer c r) (rowOff c) (semOff (peer c r)) (semOff c))
          (fun r => agRecvOp (semOff (peer c r)) (rowOff (peer c r)))
          (fun r => rsSentOp (semOff (peer c r)) (slotOff c) (rowOff (peer c r)))
          (fun r => agSentOp (semOff (peer c r)) (rowOff c))) Q) := by
  unfold tail midway credits posTail
  iintro ⟨#HRL, ⟨Hpc, Hps⟩, ⟨%f1, Hsl⟩, ⟨%f2, Hout⟩, ⟨Ht0, Ht1⟩, ⟨Ht2, Ht3⟩, ⟨Hcb, Hc1, Hc3⟩, Hab, ⟨Ha0, Ha1, Ha2, Ha3⟩, HO⟩ Hk
  ihave #HR := (show iprop(records m K ∗ levAts L lv) ⊢ records m K from by iintro ⟨H, -⟩; iexact H) $$ HRL
  unfold fam
  icases Ha0 with ⟨Hi0, Ha0⟩
  icases Ha1 with ⟨Hi1, Ha1⟩
  icases Ha2 with ⟨Hi2, Ha2⟩
  icases Ha3 with ⟨Hi3, Ha3⟩
  -- the barrier
  iapply (step_barrier m K (c := c) (Q := Q)) $$ [Hcb Hab HO]
  · isplitr; · iexact HRL
    isplitr [HO]
    · isplitl [Hcb] <;> iassumption
    iexact HO
  iintro ⟨Hpay, Hab, HO⟩
  ihave Hpay := (show (bigSep (others c) fun d => barPay (F := F) c d) ⊢ _ from
    unzip c (fun d => iprop(∃ f, slotPts (F := F) d c f)) (fun d => iprop(∃ f, outPts (F := F) fullShare d c f))) $$ Hpay
  icases Hpay with ⟨Hslots, Houts⟩
  -- the partial rows go out
  iapply (wp_phase (Q := Q) (R := records m K) c (fun j => rsOp j (rowOff j) (slotOff c) (semOff j) (semOff c)) (rsPre m c)
      (fun j => cred (tallyAt (cell c (mem 0 j)) () N)) (fun s => owing c (owed c ∅ s (others c))) (fun j hj s hs k => step_rs m K hj hs ∅ (others c)) _)
    $$ [Hps Hslots Ht0 Ht1 HO]
  · isplitr; · iexact HR
    isplitr [HO]
    · iapply (rs_ready m c)
      isplitl [Hps]; · iexact Hps
      isplitl [Hslots]; · iexact Hslots
      isplitl [Ht0] <;> iassumption
    iexact HO
  iintro ⟨Hc0, HO⟩
  -- the device's own rows into its own slot
  unfold partPts slotPts
  iapply (wp_load 𝒱₀ (c : Thread nD τ) none Set.univ (m := partM) (S := rowSet c) (Finset.subset_of_eq (Finset.map_refl.trans (rowRect_set c)))) $$ Hpc
  iintro Hpc
  iapply (wp_load 𝒱₀ (c : Thread nD τ) none Set.univ (m := bufM) (S := slotSet c) (Finset.subset_of_eq (Finset.map_refl.trans (slotRect_set c)))) $$ Hsl
  iintro Hsl
  iapply (wp_store 𝒱₀ (c : Thread nD τ) none Set.univ (m := bufM) (r := Rect.unit (s := S16x16x256) (slotOff c).1 S1x16x256.size (slotOff c).2) (Mk := Finset.univ) (S := slotSet c)
    (Finset.subset_of_eq ((View.set_slice_whole _ _).trans (slotRect_set c)))) $$ Hsl
  iintro Hsl
  ihave Hsl := (Entails.of_eq (pointsTo_congr (stored_slot m c f1))) $$ Hsl
  -- the partial rows of the others land
  iapply (wait_phase m K (Q := Q) c 1 (fun j => rsRecvOp (semOff j) (rowOff j) (slotOff j)) (owed c ∅ ∅ (others c)) _
      (fun j hj k => step_wait m K hj 1 (sem_rsRecv j) (src := rowsAt partM (rowOff j)) (dst := slotAt bufM (slotOff j)) (hsrc := View.wordExact_bits rfl) (hdst := (View.wordExact_bits rfl).reshape _ _) rfl (may_wait (F := F) c (csem (mem 1 j)) 2 (by rw [tag_csem]; exact le_rfl)
        (fun i hi => absurd hi (Finset.notMem_empty i)) (fun i hi => absurd hi (Finset.notMem_empty i)) (fun _ _ => by decide)))) $$ [Hc1 Ha1 HO]
  · isplitr; · iexact HRL
    isplitr [HO]
    · isplitl [Hc1] <;> iassumption
    iexact HO
  iintro ⟨Hland, Ha1, HO⟩
  ihave Hbuf := (show iprop((((c : Thread nD τ).loc cc0_scratch1) ↦[slotSet c]{fullShare} inbox m c) ∗ bigSep (others c) fun j => dmaPay m 1 c j) ⊢ _
    from Entails.of_eq (slot_pieces c (inbox m c)).symm) $$ [Hsl Hland]
  · isplitl [Hsl] <;> iassumption
  -- the sum, stored into the device's own rows
  ihave Hout := (show outPts fullShare c c f2 ⊢ iprop(((c : Thread nD τ).loc cc0_stg4_0) ↦[rowSet c]{fullShare} f2) from .rfl) $$ Hout
  iapply (wp_load 𝒱₀ (c : Thread nD τ) none Set.univ (m := bufM) (Finset.subset_univ _)) $$ Hbuf
  iintro Hbuf
  rw [read_inbox]
  iapply (wp_load 𝒱₀ (c : Thread nD τ) none Set.univ (m := outM) (S := rowSet c) (Finset.subset_of_eq (Finset.map_refl.trans (rowRect_set c)))) $$ Hout
  iintro Hout
  iapply (wp_store 𝒱₀ (c : Thread nD τ) none Set.univ (m := outM) (r := Rect.unit (s := S256x256) (rowOff c).1 S16x256.size (rowOff c).2) (Mk := Finset.univ) (S := rowSet c)
    (Finset.subset_of_eq ((View.set_slice_whole _ _).trans (rowRect_set c)))) $$ Hout
  iintro Hout
  ihave Hout := (landed_sum m c f2) $$ Hout
  icases Hout with ⟨Hkeep, Hown, Hlent⟩
  -- the finished rows go out
  iapply (wp_phase (Q := Q) (R := records m K) c (fun j => agOp j (rowOff c) (semOff j) (semOff c)) (agPre m c)
      (fun j => cred (tallyAt (cell c (mem 2 j)) () N)) (fun s => owing c (owed c ∅ ∅ s)) (fun j hj s hs k => step_ag m K hj hs ∅ ∅) _)
    $$ [Hlent Houts Ht2 Ht3 HO]
  · isplitr; · iexact HR
    isplitr [HO]
    · iapply (ag_ready m c)
      isplitl [Hlent]; · iexact Hlent
      isplitl [Houts]; · iexact Houts
      isplitl [Ht2] <;> iassumption
    iexact HO
  iintro ⟨Hc2, HO⟩
  rw [owed_nil]
  -- the finished rows of the others land, and everything sent has left
  iapply (wait_phase m K (Q := Q) c 3 (fun j => agRecvOp (semOff j) (rowOff j)) 0 _
      (fun j hj k => step_wait m K hj 3 (sem_agRecv j) (src := rowsAt outM (rowOff j)) (dst := rowsAt outM (rowOff j)) (hsrc := View.wordExact_bits rfl) (hdst := View.wordExact_bits rfl) rfl (may_wait_nil c _))) $$ [Hc3 Ha3 HO]
  · isplitr; · iexact HRL
    isplitr [HO]
    · isplitl [Hc3] <;> iassumption
    iexact HO
  iintro ⟨Hrows, Ha3, HO⟩
  iapply (wait_phase m K (Q := Q) c 0 (fun j => rsSentOp (semOff j) (slotOff c) (rowOff j)) 0 _
      (fun j hj k => step_wait m K hj 0 (sem_rsSent j) (src := slotAt bufM (slotOff c)) (dst := rowsAt partM (rowOff j)) (hsrc := (View.wordExact_bits rfl).reshape _ _) (hdst := View.wordExact_bits rfl) rfl (may_wait_nil c _))) $$ [Hc0 Ha0 HO]
  · isplitr; · iexact HRL
    isplitr [HO]
    · isplitl [Hc0] <;> iassumption
    iexact HO
  iintro ⟨Hps, Ha0, HO⟩
  iapply (wait_phase m K (Q := Q) c 2 (fun j => agSentOp (semOff j) (rowOff c)) 0 _
      (fun j hj k => step_wait m K hj 2 (sem_agSent j) (src := rowsAt outM (rowOff c)) (dst := rowsAt outM (rowOff c)) (hsrc := View.wordExact_bits rfl) (hdst := View.wordExact_bits rfl) rfl (may_wait_nil c _))) $$ [Hc2 Ha2 HO]
  · isplitr; · iexact HRL
    isplitr [HO]
    · isplitl [Hc2] <;> iassumption
    iexact HO
  iintro ⟨Hback, Ha2, HO⟩
  -- the buffers are whole again
  ihave Hpart := (show iprop((((c : Thread nD τ).loc cc0_scratch0) ↦[rowSet c]{fullShare} prod m c) ∗ bigSep (others c) fun j => dmaPay m 0 c j) ⊢ _
    from Entails.of_eq (part_pieces c (prod m c)).symm) $$ [Hpc Hps]
  · isplitl [Hpc] <;> iassumption
  ihave Hout := (show iprop(outPts (Transfers.shareDrop fullShare 16) c c (result m) ∗ outPts (lent c) c c (result m) ∗ bigSep (others c) fun j => dmaPay m 2 c j) ⊢ _
    from (lend c (result m)).2) $$ [Hkeep Hown Hback]
  · isplitl [Hkeep]; · iexact Hkeep
    isplitl [Hown] <;> iassumption
  ihave Hres := (show iprop(outPts fullShare c c (result m) ∗ bigSep (others c) fun j => dmaPay m 3 c j) ⊢ _
    from Entails.of_eq (out_pieces c (result m)).symm) $$ [Hout Hrows]
  · isplitl [Hout] <;> iassumption
  -- the semaphores close
  imod (close_fam m K c 0) $$ [Hi0 Ha0] with Hz0
  · isplitr; · iexact HR
    isplitl [Hi0] <;> iassumption
  imod (close_fam m K c 1) $$ [Hi1 Ha1] with Hz1
  · isplitr; · iexact HR
    isplitl [Hi1] <;> iassumption
  imod (close_fam m K c 2) $$ [Hi2 Ha2] with Hz2
  · isplitr; · iexact HR
    isplitl [Hi2] <;> iassumption
  imod (close_fam m K c 3) $$ [Hi3 Ha3] with Hz3
  · isplitr; · iexact HR
    isplitl [Hi3] <;> iassumption
  imod (Rounds.cell_close ER (sched m) (g := cell c bar) (Set.mem_univ (K (c, bar))) (fun h => h) (R := 1) (duties_later m _)) $$ [Hab] with Hzb
  · isplitr; · iapply (records_inv m K c bar); iexact HR
    iexact Hab
  rw [wp_ret]
  imodintro
  iapply Hk
  unfold done
  isplitl [Hpart]; · iexact Hpart
  isplitl [Hbuf]; · iexact Hbuf
  isplitl [Hres]; · iexact Hres
  isplitr [HO]
  · unfold zeros
    rw [keys c]
    isplitl [Hzb]; · iexact Hzb
    isplitl [Hz0]; · iexact Hz0
    isplitl [Hz1]; · iexact Hz1
    isplitl [Hz2] <;> iassumption
  iexact HO

/-- Storing the product leaves every row block of it. -/
theorem stored_part (c : Dev nD) (f : FVec F S256x256 .f32) :
    iprop(((c : Thread nD τ).loc cc0_scratch0) ↦{fullShare}
      (partM.access (Rect.unit (s := S256x256) ![0, 0] S256x256.size inb_S256x256_S256x256_0_0)).write (Elt F) f
        (k0_pay3 (k0_pay1 (xAt m c) (gateAt m c) (upAt m c)) (k0_pay2 (downAt m c))) Finset.univ)
      ⊢ iprop(partPts c c (prod m c) ∗ bigSep (others c) fun j => partPts c j (prod m c)) := by
  have e : (partM.access (Rect.unit (s := S256x256) ![0, 0] S256x256.size inb_S256x256_S256x256_0_0)).write (Elt F) f (prod m c) Finset.univ = prod m c :=
    Memref.write_access_unit_zero_univ (Elt F) cc0_scratch0 (funext fun a => by fin_cases a <;> rfl) _ f _
  exact Entails.of_eq ((congrArg (fun g => iprop(((c : Thread nD τ).loc cc0_scratch0) ↦{fullShare} g)) e).trans (part_pieces c (prod m c)))

/-- The duties a device pays, each kind together. -/
theorem tokens (c : Dev nD) : bigSep (others c) (payToks (F := F) c)
    ⊢ iprop((bigSep (others c) fun j => dutyTok ER (cell j bar) 0 c)
      ∗ iprop((bigSep (others c) fun j => dutyTok ER (cell c (mem 0 j)) 0 j) ∗ bigSep (others c) fun j => dutyTok ER (cell j (mem 1 c)) 0 c)
      ∗ iprop((bigSep (others c) fun j => dutyTok ER (cell c (mem 2 j)) 0 j) ∗ bigSep (others c) fun j => dutyTok ER (cell j (mem 3 c)) 0 c)) := by
  unfold payToks
  rw [bigSep_sep', bigSep_sep', bigSep_sep', bigSep_sep']
  iintro ⟨H1, H2, H3, H4, H5⟩
  isplitl [H1]; · iexact H1
  isplitl [H2 H3]
  · isplitl [H2] <;> iassumption
  isplitl [H4] <;> iassumption

/-- What the signals take, gathered. -/
theorem sig_ready (c : Dev nD) (f1 : FVec F S16x16x256 .f32) (f2 : FVec F S256x256 .f32) :
    iprop((bigSep (others c) fun j => dutyTok ER (cell j bar) 0 c) ∗ (bigSep (others c) fun j => slotPts c j f1)
        ∗ bigSep (others c) fun j => outPts fullShare c j f2)
      ⊢ bigSep (others c) (sigPre (F := F) c) :=
  (sep_mono_right (zip c _ _)).trans ((zip c _ _).trans (bigSep_mono fun j _ => sep_mono_right
    (show iprop(slotPts c j f1 ∗ outPts fullShare c j f2) ⊢ iprop((∃ f, slotPts (F := F) c j f) ∗ ∃ f, outPts (F := F) fullShare c j f) from by
      iintro ⟨H1, H2⟩
      isplitl [H1]
      · iexists f1; iexact H1
      · iexists f2; iexact H2)))

/-- The four operands as staged. -/
def staged (c : Dev nD) : sProp 𝕄 :=
  iprop((((c : Thread nD τ).loc cc0_stg0_0) ↦{fullShare} xAt m c) ∗ (((c : Thread nD τ).loc cc0_stg1_0) ↦{fullShare} gateAt m c)
    ∗ (((c : Thread nD τ).loc cc0_stg2_0) ↦{fullShare} upAt m c) ∗ (((c : Thread nD τ).loc cc0_stg3_0) ↦{fullShare} downAt m c))

/-- Reading the whole staged `x` gives its contents. -/
theorem read_x (c : Dev nD) : (Memref.whole cc0_stg0_0).view.readAt (Elt F) (Rect.unit (s := S256x256) ![0, 0] S256x256.size inb_S256x256_S256x256_0_0).toLoadRect (xAt m c)
    = xAt m c := Memref.readAt_unit_zero (Elt F) cc0_stg0_0 (funext fun a => by fin_cases a <;> rfl) _ _
/-- Reading the whole staged gate weights gives their contents. -/
theorem read_gate (c : Dev nD) : (Memref.whole cc0_stg1_0).view.readAt (Elt F) (Rect.unit (s := S256x512) ![0, 0] S256x512.size inb_S256x512_S256x512_0_0).toLoadRect (gateAt m c)
    = gateAt m c := Memref.readAt_unit_zero (Elt F) cc0_stg1_0 (funext fun a => by fin_cases a <;> rfl) _ _
/-- Reading the whole staged second weights gives their contents. -/
theorem read_up (c : Dev nD) : (Memref.whole cc0_stg2_0).view.readAt (Elt F) (Rect.unit (s := S256x512) ![0, 0] S256x512.size inb_S256x512_S256x512_0_0).toLoadRect (upAt m c)
    = upAt m c := Memref.readAt_unit_zero (Elt F) cc0_stg2_0 (funext fun a => by fin_cases a <;> rfl) _ _
/-- Reading the whole staged last weights gives their contents. -/
theorem read_down (c : Dev nD) : (Memref.whole cc0_stg3_0).view.readAt (Elt F) (Rect.unit (s := S512x256) ![0, 0] S512x256.size inb_S512x256_S512x256_0_0).toLoadRect (downAt m c)
    = downAt m c := Memref.readAt_unit_zero (Elt F) cc0_stg3_0 (funext fun a => by fin_cases a <;> rfl) _ _

set_option maxHeartbeats 1600000 in
/-- The whole body on device `c`. -/
theorem sound_body {Q : PUnit → sProp 𝕄} (c : Dev nD) :
    iprop(iprop(records m K ∗ levAts L lv) ∗ linear (F := F) c ∗ credits (F := F) c ∗ scratch (F := F) c ∗ owing (F := F) c (O₀ c) ∗ staged m c
        ∗ ∃ f : FVec F S256x256 .f32, ((c : Thread nD τ).loc cc0_stg4_0) ↦{fullShare} f)
      ⊢ iprop(((done m c ∗ staged m c) -∗ Q ⟨⟩) -∗ wpc c (body F) Q) := by
  rw [body_written]
  unfold linear scratch staged
  iintro ⟨#HRL, ⟨Hat, Htok⟩, Hcr, ⟨⟨%f0, Hp⟩, ⟨%f1, Hb⟩⟩, HO, ⟨Hx, Hg, Hu, Hd⟩, ⟨%f2, Hout⟩⟩ Hk
  ihave #HR := (show iprop(records m K ∗ levAts L lv) ⊢ records m K from by iintro ⟨H, -⟩; iexact H) $$ HRL
  unfold wpc
  rw [wp_deviceId, show (((c : Thread nD τ).1 : Dev nD)) = c from rfl, written_eq]
  unfold script
  ihave Hat := (Entails.of_eq (keys c fun k => atPos ER (cell c k) 0 ∅ 0)) $$ Hat
  icases Hat with ⟨Hab, Hpos⟩
  ihave Htok := (tokens c) $$ Htok
  icases Htok with ⟨Htb, Htr, Hta⟩
  ihave Hb := (Entails.of_eq (slot_pieces c f1)) $$ Hb
  icases Hb with ⟨Hsl, Hslots⟩
  ihave Hout := (Entails.of_eq (out_pieces c f2)) $$ Hout
  icases Hout with ⟨Hrow, Hrows⟩
  -- the signals
  iapply (wp_phase (Q := Q) (R := records m K) c sigOp (sigPre c) (fun _ => iprop(emp)) (fun s => owing c (owed c s (others c) (others c)))
      (fun j hj s hs k => step_signal m K hj hs (others c) (others c)) _) $$ [Htb Hslots Hrows HO]
  · isplitr; · iexact HR
    isplitr [HO]
    · iapply (sig_ready c f1 f2)
      isplitl [Htb]; · iexact Htb
      isplitl [Hslots] <;> iassumption
    iexact HO
  iintro ⟨-, HO⟩
  -- the product
  iapply (wp_load 𝒱₀ (c : Thread nD τ) none Set.univ (m := Memref.whole cc0_stg0_0) (Finset.subset_univ _)) $$ Hx; iintro Hx
  rw [read_x]
  iapply (wp_load 𝒱₀ (c : Thread nD τ) none Set.univ (m := Memref.whole cc0_stg1_0) (Finset.subset_univ _)) $$ Hg; iintro Hg
  rw [read_gate]
  iapply (wp_load 𝒱₀ (c : Thread nD τ) none Set.univ (m := Memref.whole cc0_stg2_0) (Finset.subset_univ _)) $$ Hu; iintro Hu
  rw [read_up]
  iapply (wp_load 𝒱₀ (c : Thread nD τ) none Set.univ (m := Memref.whole cc0_stg3_0) (Finset.subset_univ _)) $$ Hd; iintro Hd
  rw [read_down]
  iapply (wp_load 𝒱₀ (c : Thread nD τ) none Set.univ (m := partM) (Finset.subset_univ _)) $$ Hp; iintro Hp
  iapply (wp_store 𝒱₀ (c : Thread nD τ) none Set.univ (m := partM) (r := Rect.unit (s := S256x256) ![0, 0] S256x256.size inb_S256x256_S256x256_0_0)
    (Mk := Finset.univ) (Finset.subset_univ _)) $$ Hp; iintro Hp
  ihave Hp := (stored_part m c f0) $$ Hp
  -- the rest
  iapply (wp_tail m K (Q := Q) c) $$ [Hab Hpos Htr Hta Hcr Hsl Hrow Hp HO]
  · isplitr; · iexact HRL
    unfold midway posTail
    isplitl [Hp]; · iexact Hp
    isplitl [Hsl]; · iexists f1; iexact Hsl
    isplitl [Hrow]; · iexists f2; iexact Hrow
    isplitl [Htr]; · iexact Htr
    isplitl [Hta]; · iexact Hta
    isplitl [Hcr]; · iexact Hcr
    isplitl [Hab]; · iexact Hab
    isplitl [Hpos] <;> iassumption
  iintro Hdone
  iapply Hk
  isplitl [Hdone]; · iexact Hdone
  isplitl [Hx]; · iexact Hx
  isplitl [Hg]; · iexact Hg
  isplitl [Hu] <;> iassumption

end Run

end Cert.Mlp
end
-- ==== Proof.Launch.lean ====
/-
# The launch

The kernel's body meets the pipeline's obligation; the launch deals every device its share of the protocol; so the whole
program runs to the computed contents with every semaphore back at zero.
-/
module

public import proofs.«01_k».proof.Proof.Body
public import proofs.«01_k».proof.Proof.Gen.KernelIdeal.Launch
public import Idealize.ShloMosaic.Lib.Pipeline.CollectiveSegs

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The body obligation -/

/-- A staging buffer at known contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- Owning a whole staging buffer, as a points-to. -/
theorem owns_stage (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- What the pipeline hands the body. -/
def bodyPre (c : Dev nD) : sProp 𝕄 :=
  iprop(Φ₀ m c ∗ (dats m 0 c).owesAt () t0_0.castSucc
    ∗ (∃ d, stg c cc0_stg0_0 ((dats m 0 c).before (0 : Fin 5) t0_0 d)) ∗ (∃ d, stg c cc0_stg1_0 ((dats m 0 c).before (1 : Fin 5) t0_0 d))
    ∗ (∃ d, stg c cc0_stg2_0 ((dats m 0 c).before (2 : Fin 5) t0_0 d)) ∗ (∃ d, stg c cc0_stg3_0 ((dats m 0 c).before (3 : Fin 5) t0_0 d))
    ∗ ∃ d, stg c cc0_stg4_0 ((dats m 0 c).before (4 : Fin 5) t0_0 d))

/-- What the pipeline takes back from the body. -/
def bodyPost (c : Dev nD) : sProp 𝕄 :=
  iprop(Φ₁ c ∗ (dats m 0 c).owesAt () t0_0.succ ∗ stg c cc0_stg0_0 (xAt m c) ∗ stg c cc0_stg1_0 (gateAt m c)
    ∗ stg c cc0_stg2_0 (upAt m c) ∗ stg c cc0_stg3_0 (downAt m c) ∗ stg c cc0_stg4_0 (result m))

/-- The body finds `x` staged. -/
theorem before_x (c : Dev nD) (d) : (dats m 0 c).before (0 : Fin 5) t0_0 d = xAt m c := by
  unfold Dat.before; rw [if_pos (fetch0_0 t0_0)]; rfl
/-- The body finds the gate weights staged. -/
theorem before_gate (c : Dev nD) (d) : (dats m 0 c).before (1 : Fin 5) t0_0 d = gateAt m c := by
  unfold Dat.before; rw [if_pos (fetch0_1 t0_0)]; rfl
/-- The body finds the second weights staged. -/
theorem before_up (c : Dev nD) (d) : (dats m 0 c).before (2 : Fin 5) t0_0 d = upAt m c := by
  unfold Dat.before; rw [if_pos (fetch0_2 t0_0)]; rfl
/-- The body finds the last weights staged. -/
theorem before_down (c : Dev nD) (d) : (dats m 0 c).before (3 : Fin 5) t0_0 d = downAt m c := by
  unfold Dat.before; rw [if_pos (fetch0_3 t0_0)]; rfl

/-- A known buffer, staged. -/
theorem stg_intro (c : Dev nD) (b : Ref sig .tc) (X : b.ty.Contents (Elt F)) :
    iprop(((c : Thread nD τ).loc b) ↦{fullShare} X) ⊢ stg c b X := by
  iintro H
  iexists X; isplitr; · (ipureintro; rfl)
  iexact H
/-- A staged buffer of known contents, unstaged. -/
theorem stg_elim (c : Dev nD) (b : Ref sig .tc) {A : Type} (Y : A → b.ty.Contents (Elt F)) (X : b.ty.Contents (Elt F)) (h : ∀ d, Y d = X) :
    iprop(∃ d, stg c b (Y d)) ⊢ iprop(((c : Thread nD τ).loc b) ↦{fullShare} X) := by
  iintro ⟨%d, %f, %e, H⟩
  subst e
  rw [h d]
  iexact H

/-- The body, from what the pipeline hands it to what the pipeline takes back. -/
theorem body_meets (c : Dev nD) : bodyPre m c ⊢ wpc c (body F) fun _ => bodyPost m c := by
  unfold bodyPre Φ₀ start Dat.owesAt Pipeline.owesWithin
  iintro ⟨⟨⟨⟨%K, #HR, Hlin⟩, Hcr, #HL⟩, Hscr⟩, ⟨%W, -, HO⟩, Hx, Hg, Hu, Hd, ⟨%d4, %f4, -, Hout⟩⟩
  ihave Hx := (stg_elim c cc0_stg0_0 _ _ (before_x m c)) $$ Hx
  ihave Hg := (stg_elim c cc0_stg1_0 _ _ (before_gate m c)) $$ Hg
  ihave Hu := (stg_elim c cc0_stg2_0 _ _ (before_up m c)) $$ Hu
  ihave Hd := (stg_elim c cc0_stg3_0 _ _ (before_down m c)) $$ Hd
  iapply (sound_body m K (Q := fun _ => bodyPost m c) c) $$ [Hlin Hcr Hscr HO Hx Hg Hu Hd Hout]
  · isplitr
    · isplitr; · iexact HR
      iexact HL
    isplitl [Hlin]; · iexact Hlin
    isplitl [Hcr]; · iexact Hcr
    isplitl [Hscr]; · iexact Hscr
    isplitl [HO]
    · unfold owing; iexists W; iexact HO
    isplitl [Hx Hg Hu Hd]
    · unfold staged
      isplitl [Hx]; · iexact Hx
      isplitl [Hg]; · iexact Hg
      isplitl [Hu] <;> iassumption
    iexists f4; iexact Hout
  unfold done staged owing
  iintro ⟨⟨Hp, Hb, Hr, Hz, ⟨%W', HO⟩⟩, Hx, Hg, Hu, Hd⟩
  unfold bodyPost Φ₁ scratch Dat.owesAt Pipeline.owesWithin
  isplitl [Hp Hb Hz]
  · isplitl [Hp Hb]
    · isplitl [Hp]
      · iexists (prod m c); iexact Hp
      · iexists (inbox m c); iexact Hb
    iexact Hz
  isplitl [HO]
  · iexists W'
    isplitr; · ipureintro; exact fun _ _ => Or.inl trivial
    iexact HO
  isplitl [Hx]; · iapply (stg_intro c cc0_stg0_0 (xAt m c)); iexact Hx
  isplitl [Hg]; · iapply (stg_intro c cc0_stg1_0 (gateAt m c)); iexact Hg
  isplitl [Hu]; · iapply (stg_intro c cc0_stg2_0 (upAt m c)); iexact Hu
  isplitl [Hd]; · iapply (stg_intro c cc0_stg3_0 (downAt m c)); iexact Hd
  iapply (stg_intro c cc0_stg4_0 (result m)); iexact Hr

/-- A fact about every window, window by window. -/
theorem all_windows (Φ : Fin cfg0.W → sProp 𝕄) : bigSep Finset.univ Φ
    = iprop(Φ (0 : Fin 5) ∗ Φ (1 : Fin 5) ∗ Φ (2 : Fin 5) ∗ Φ (3 : Fin 5) ∗ Φ (4 : Fin 5)) := bigSep_W0 Φ

set_option maxRecDepth 65536 in
/-- The pipeline's obligation for the body. -/
theorem body_obligation (c : Dev nD) : BodyObligation (dats (F := F) m 0 c) (defs₀ (F := F)) 𝒱₀ () Set.univ := fun t => by
  rw [show t = t0_0 from fin_N0 t, all_windows, all_windows]
  simp only [owns_stage]
  show bodyPre m c ⊢ wp frame (wpE (defs₀ (F := F)) 𝒱₀ c none) Set.univ (body F) (fun _ => bodyPost m c)
  exact body_meets m c

/-! ## What the launch deals -/

/-- The semaphores the kernel declares: the four families. -/
abbrev osem : Fin 4 × Dev nD → SemLoc sig := fun p => csem (.inr p)

/-- The declared semaphores are distinct and none belongs to the pipeline. -/
theorem ownSemFacts : Pipeline.OwnSemFacts cfg0.spec osem := by decide +kernel

/-- Every window is held in full. -/
theorem share_eq (c : Dev nD) (w : Fin cfg0.W) : (dats m 0 c).share w = fullShare := by unfold Dat.share; split <;> rfl

/-- The cells of all devices. -/
def allCells : Finset (GSem nD τ sig) :=
  Finset.univ.map ⟨fun x : Dev nD × Key => cell x.1 x.2, fun x y h => Prod.ext (cell_inj h).1 (cell_inj h).2⟩
/-- A duty for every payer at every cell. -/
def allToks : Finset (GSem nD τ sig × ℕ × Dev nD) :=
  Finset.univ.map ⟨fun x : Dev nD × Key × Dev nD => (cell x.1 x.2.1, 0, x.2.2), fun x y h => by
    have h1 := cell_inj (congrArg Prod.fst h)
    exact Prod.ext h1.1 (Prod.ext h1.2 (congrArg (fun z : GSem nD τ sig × ℕ × Dev nD => z.2.2) h))⟩

/-- The ghost state at launch. -/
def u₀ : UU := (initOf (Pipeline.cells cfgs cellOf_inj) (Pipeline.launchToks cfgs cellOf_inj), initOf allCells allToks)

/-- The duties at device `c`'s own cells. -/
def cellToks (c : Dev nD) : sProp 𝕄 := bigSep Finset.univ fun k : Key => bigSep Finset.univ fun d : Dev nD => dutyTok ER (cell c k) 0 d

/-- What the launch deals device `c`. -/
def G (c : Dev nD) : sProp 𝕄 :=
  iprop((bigSep Finset.univ fun k : Key => roundState ER (sched m) (cell c k) 0)
    ∗ iprop((bigSep Finset.univ fun k : Key => atPos ER (cell c k) 0 ∅ 0) ∗ bigSep Finset.univ fun k : Key => reached ER (cell c k) 0) ∗ cellToks (F := F) c)
/-- What device `c` takes into its kernel. -/
def G' (c : Dev nD) : sProp 𝕄 := iprop(∃ K, records m K ∗ linear (F := F) c)

/-- A fact about every cell, device by device. -/
theorem over_cells (Φ : GSem nD τ sig → sProp 𝕄) : bigSep allCells Φ = bigSep Finset.univ fun c : Dev nD => bigSep Finset.univ fun k : Key => Φ (cell c k) := by
  unfold allCells; rw [bigSep_map, bigSep_univ_prod]; rfl
/-- The duties, device by device. -/
theorem over_toks : bigSep allToks (fun x => (dutyTok ER x.1 x.2.1 x.2.2 : sProp 𝕄)) = bigSep Finset.univ fun c : Dev nD => cellToks (F := F) c := by
  unfold allToks cellToks
  rw [bigSep_map, bigSep_univ_prod]
  exact bigSep_congr fun c _ => by rw [bigSep_univ_prod]; rfl

/-- The launch's ghost state, dealt to the devices. -/
theorem fund_all : BI.own (ER (initOf allCells allToks)) ⊢ (|==> bigSep Finset.univ (G m) : sProp 𝕄) := by
  iintro HX
  imod (Rounds.fund ER (sched m) allCells allToks) $$ HX with ⟨Hst, Hr, Hat, Htok⟩
  imodintro
  ihave Hst := (Entails.of_eq (over_cells fun g => roundState ER (sched m) g 0)) $$ Hst
  ihave Hat := (Entails.of_eq (over_cells fun g => atPos ER g 0 ∅ 0)) $$ Hat
  ihave Hr := (Entails.of_eq (over_cells fun g => reached ER g 0)) $$ Hr
  ihave Htok := (Entails.of_eq over_toks) $$ Htok
  unfold G
  rw [bigSep_sep', bigSep_sep', bigSep_sep']
  isplitl [Hst]; · iexact Hst
  isplitl [Hat Hr]
  · isplitl [Hat] <;> iassumption
  iexact Htok

/-! ## Before the kernels start -/

/-- The barrier semaphore is the one the kernel does not declare. -/
theorem unscoped_eq (c : Dev nD) : (unscopedSems0 c : sProp 𝕄) = semVal (cell c bar) 0 := by
  unfold unscopedSems0; rw [bigSep_eq_bigSepL_of_eq [SemLoc.reg barS] (by decide +kernel) (by decide)]; rfl

/-- All semaphores at zero: the barrier and the declared ones. -/
theorem zeros_eq (c : Dev nD) : zeros (F := F) c
    = iprop(unscopedSems0 c ∗ Pipeline.ownSems0 (Ix := Unit) (Name := ℕ) (U := UU) (Lvl := ℕ) (Val := Elt F) (τ := τ) osem c) := by
  unfold zeros
  rw [bigSep_univ_sum, bigSep_univ_eq_bigSepL [()] (by decide) (by decide), bigSepL_singleton, unscoped_eq]
  rfl

/-- A device's cells, from zero counters to invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Key => iprop(∃ κ : ℕ, cellInv ER (sched m) κ (cell c k)))
          ∗ iprop((bigSep Finset.univ fun k : Key => atPos ER (cell c k) 0 ∅ 0) ∗ bigSep Finset.univ fun k : Key => reached ER (cell c k) 0) ∗ cellToks (F := F) c) := by
  unfold G
  iintro ⟨Hos, Hus, Hst, Hat, Htok⟩
  ihave Hv := (Entails.of_eq (zeros_eq (F := F) c).symm) $$ [Hos Hus]
  · isplitl [Hus] <;> iassumption
  unfold zeros
  imod (show iprop((bigSep Finset.univ fun k : Key => semVal (cell c k) 0) ∗ bigSep Finset.univ fun k : Key => roundState ER (sched m) (cell c k) 0)
      ⊢ (|={Set.univ}=> bigSep Finset.univ fun k : Key => iprop(∃ κ : ℕ, cellInv ER (sched m) κ (cell c k)) : sProp 𝕄) from by
        rw [← bigSep_sep']
        exact (bigSep_mono fun k _ => (Rounds.body_intro ER (sched m) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- The duties at a device's own cells, by who pays them. -/
def ownToks (c j : Dev nD) : sProp 𝕄 :=
  iprop(dutyTok ER (cell c bar) 0 j ∗ dutyTok ER (cell c (mem 0 j)) 0 j ∗ dutyTok ER (cell c (mem 1 j)) 0 j
    ∗ dutyTok ER (cell c (mem 2 j)) 0 j ∗ dutyTok ER (cell c (mem 3 j)) 0 j)

/-- The duties of a family that have a payer. -/
theorem fam_toks (c : Dev nD) (a : Fin 4) :
    fam c a (fun k => bigSep Finset.univ fun d : Dev nD => (dutyTok ER (cell c k) 0 d : sProp 𝕄)) ⊢ bigSep (others c) fun j => dutyTok ER (cell c (mem a j)) 0 j := by
  have h : (bigSep (others c) fun j => bigSep Finset.univ fun d : Dev nD => (dutyTok ER (cell c (mem a j)) 0 d : sProp 𝕄))
      ⊢ bigSep (others c) fun j => dutyTok ER (cell c (mem a j)) 0 j :=
    bigSep_mono fun j _ => bigSep_elim (Φ := fun d : Dev nD => (dutyTok ER (cell c (mem a j)) 0 d : sProp 𝕄)) (Finset.mem_univ j)
  unfold fam
  iintro ⟨-, H⟩
  iapply h
  iexact H

/-- The duties at a device's own cells, sorted by payer. -/
theorem cell_toks (c : Dev nD) : cellToks (F := F) c ⊢ bigSep (others c) (ownToks (F := F) c) := by
  unfold cellToks ownToks
  rw [keys c, bigSep_sep', bigSep_sep', bigSep_sep', bigSep_sep']
  exact BIClass.sep_mono (bigSep_subset (Finset.erase_subset _ _)) (BIClass.sep_mono (fam_toks c 0) (BIClass.sep_mono (fam_toks c 1) (BIClass.sep_mono (fam_toks c 2) (fam_toks c 3))))

/-- Every duty goes to the device that pays it. -/
theorem toks_swap : (bigSep Finset.univ fun c : Dev nD => bigSep (others c) (ownToks (F := F) c))
    = bigSep Finset.univ fun c : Dev nD => bigSep (others c) (payToks (F := F) c) := by
  unfold ownToks payToks
  simp only [bigSep_sep']
  rw [bigSep_erase_comm fun c j : Dev nD => (dutyTok ER (cell c bar) 0 j : sProp 𝕄),
    bigSep_erase_comm fun c j : Dev nD => (dutyTok ER (cell c (mem 1 j)) 0 j : sProp 𝕄),
    bigSep_erase_comm fun c j : Dev nD => (dutyTok ER (cell c (mem 3 j)) 0 j : sProp 𝕄)]

/-- What the devices have together, dealt out so that each can start. -/
theorem regroup :
    (bigSep Finset.univ fun c : Dev nD => iprop((bigSep Finset.univ fun k : Key => iprop(∃ κ : ℕ, cellInv ER (sched m) κ (cell c k)))
          ∗ iprop((bigSep Finset.univ fun k : Key => atPos ER (cell c k) 0 ∅ 0) ∗ bigSep Finset.univ fun k : Key => reached ER (cell c k) 0) ∗ cellToks (F := F) c) : sProp 𝕄)
      ⊢ bigSep Finset.univ (G' m) := by
  rw [bigSep_sep', bigSep_sep', bigSep_sep', ← bigSep_univ_prod (fun x : Dev nD × Key => iprop(∃ κ : ℕ, cellInv ER (sched m) κ (cell x.1 x.2))),
    ← bigSep_univ_prod (fun x : Dev nD × Key => (reached ER (cell x.1 x.2) 0 : sProp 𝕄))]
  iintro ⟨HI, ⟨Hat, #HR⟩, Htok⟩
  ihave HK := (BI.bigSep_exists_pi Finset.univ (fun (x : Dev nD × Key) (κ : ℕ) => (cellInv ER (sched m) κ (cell x.1 x.2) : sProp 𝕄))) $$ HI
  icases HK with ⟨%K, #HI⟩
  ihave Htk := (show (bigSep Finset.univ fun c : Dev nD => cellToks (F := F) c) ⊢ bigSep Finset.univ fun c : Dev nD => bigSep (others c) (payToks (F := F) c) from
    (bigSep_mono fun c _ => cell_toks c).trans (Entails.of_eq toks_swap)) $$ Htok
  iapply (BI.bigSep_with_persistent (R := records m K) (Φ := linear (F := F)) (Ψ := G' m) fun c _ =>
    show iprop(records m K ∗ linear (F := F) c) ⊢ G' m c from by
      unfold G'; iintro H; iexists K; iexact H)
  isplitr
  · unfold records
    isplitl; · iexact HI
    iexact HR
  · unfold linear
    rw [bigSep_sep']
    isplitl [Hat] <;> iassumption

/-- From the launch to what every device takes into its kernel. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits at launch -/

/-- A sum of tallies along one key, at a named cell. -/
theorem tally_at (s : Finset (Dev nD)) (c : Dev nD) (k k' : Key) (n : ℕ) :
    (∑ j ∈ s, if cell c k = cell j k' then n else 0) = if k = k' ∧ c ∈ s then n else 0 := by
  have e : ∀ j, (cell c k = cell j k') ↔ (k = k' ∧ c = j) := fun j => ⟨fun h => ⟨(cell_inj h).2, (cell_inj h).1⟩, fun h => by rw [h.1, h.2]⟩
  by_cases hk : k = k'
  · rw [Finset.sum_congr rfl fun j _ => if_congr ((e j).trans (and_iff_right hk)) rfl rfl, Finset.sum_ite_eq]
    exact if_congr (and_iff_right hk).symm rfl rfl
  · rw [if_neg fun h => hk h.1]
    exact Finset.sum_eq_zero fun j _ => if_neg fun h => hk ((e j).mp h).1

/-- What one device owes one cell at launch. -/
theorem owed_at (d c : Dev nD) (k : Key) : O₀ d (cell c k) () = (if k = bar ∧ c ∈ others d then 1 else 0)
    + (if k = mem 1 d ∧ c ∈ others d then N else 0) + if k = mem 3 d ∧ c ∈ others d then N else 0 := by
  rw [owed_apply, tally_at, tally_at, tally_at]

/-- What all devices together owe a cell. -/
def dueAt (c : Dev nD) (k : Key) : ℕ := ∑ d, O₀ d (cell c k) ()

/-- All together owe a barrier fifteen. -/
theorem due_bar (c : Dev nD) : dueAt c bar = 15 := by
  unfold dueAt
  have e : ∀ d, O₀ d (cell c bar) () = if c ∈ others d then 1 else 0 := fun d => by
    have h1 : ¬(bar = mem 1 d ∧ c ∈ others d) := fun h => by cases h.1
    have h3 : ¬(bar = mem 3 d ∧ c ∈ others d) := fun h => by cases h.1
    rw [owed_at, if_neg h1, if_neg h3]
    exact if_congr (and_iff_right rfl) rfl rfl
  rw [Finset.sum_congr rfl fun d _ => e d]
  exact (by decide +kernel : ∀ c : Fin 16, (∑ d : Fin 16, if c ∈ Finset.univ.erase d then 1 else 0) = 15) c

/-- All together owe a landing semaphore one transfer. -/
theorem due_land {c s : Dev nD} (h : s ≠ c) (a : Fin 4) (ha : a = 1 ∨ a = 3) : dueAt c (mem a s) = N := by
  unfold dueAt
  have e : ∀ d, O₀ d (cell c (mem a s)) () = if d = s then N else 0 := fun d => by
    have h0 : ¬(mem a s = bar ∧ c ∈ others d) := fun h => by cases h.1
    have hn : ∀ a' : Fin 4, a ≠ a' → ¬(mem a s = mem a' d ∧ c ∈ others d) := fun a' ha' h' => ha' (congrArg Prod.fst (Sum.inr.inj h'.1))
    rw [owed_at, if_neg h0]
    by_cases hd : d = s
    · subst d
      have hc : c ∈ others s := Finset.mem_erase.mpr ⟨h.symm, Finset.mem_univ _⟩
      rcases ha with rfl | rfl
      · rw [if_pos ⟨rfl, hc⟩, if_neg (hn 3 (by decide)), if_pos rfl]; omega
      · rw [if_neg (hn 1 (by decide)), if_pos ⟨rfl, hc⟩, if_pos rfl]; omega
    · rw [if_neg fun h' => hd (congrArg Prod.snd (Sum.inr.inj h'.1)).symm, if_neg fun h' => hd (congrArg Prod.snd (Sum.inr.inj h'.1)).symm, if_neg hd]
  rw [Finset.sum_congr rfl fun d _ => e d, Finset.sum_ite_eq', if_pos (Finset.mem_univ _)]

/-- The launch's credit at a cell is what all together owe it. -/
theorem launch_at (c : Dev nD) (k : Key) :
    tallyOn (cell c k) (launchCredit (Pipeline.owing O₀) 0 (cell c k)) = (tallyAt (cell c k) () (dueAt c k) : CellTallies nD τ sig Unit) := by
  unfold tallyAt
  refine congrArg _ (Finsupp.ext fun u => ?_)
  cases u
  rw [Pipeline.launchCredit_owing, Finsupp.single_eq_same]
  rfl

/-- The credits of a landing family. -/
theorem fam_creds (c : Dev nD) (a : Fin 4) (ha : a = 1 ∨ a = 3) :
    fam c a (fun k => (cred (tallyAt (cell c k) () (dueAt c k)) : sProp 𝕄)) ⊢ bigSep (others c) fun j => cred (tallyAt (cell c (mem a j)) () N) := by
  unfold fam
  iintro ⟨-, H⟩
  iapply (Entails.of_eq (bigSep_congr (s := others c) (Φ := fun j => (cred (tallyAt (cell c (mem a j)) () (dueAt c (mem a j))) : sProp 𝕄)) fun j hj => by
    rw [due_land (Finset.ne_of_mem_erase hj) a ha]))
  iexact H

/-- The launch's credits are those the body takes. -/
theorem creds (c : Dev nD) : (Pipeline.launchCred O₀ c : sProp 𝕄) ⊢ credits (F := F) c := by
  unfold Pipeline.launchCred credits
  refine (bigSep_subset (Finset.subset_univ (Finset.univ.map ⟨csem, csem_injective⟩))).trans ?_
  rw [bigSep_map]
  refine (Entails.of_eq (bigSep_congr (Ψ := fun k : Key => (cred (tallyAt (cell c k) () (dueAt c k)) : sProp 𝕄)) fun k _ => congrArg cred (launch_at c k))).trans ?_
  rw [keys c, due_bar]
  iintro ⟨Hb, -, H1, -, H3⟩
  isplitl [Hb]; · iexact Hb
  isplitl [H1]
  · iapply (fam_creds c 1 (Or.inl rfl)); iexact H1
  · iapply (fam_creds c 3 (Or.inr rfl)); iexact H3

/-! ## The run -/

variable (ρ : Dev nD → PrngReg)

/-- What the launch leaves a device is what it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

/-- Entering the kernel. -/
theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs] <;> iassumption

/-- Leaving the kernel. -/
theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁ scratch
  rw [zeros_eq]
  iintro ⟨Hr, Hu, Ho⟩
  isplitl [Hu]; · iexact Hu
  isplitl [Ho] <;> iassumption

/-- The pipeline's semaphores are none of the kernel's. -/
theorem stage_tag : ∀ (w : Fin cfg0.W) (s), tag (.dma ((cfg0.win w).sem s)) = none := by decide +kernel

/-- The pipeline's own waits are allowed. -/
theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact may_wait c _ 0 (by rw [stage_tag]; exact le_rfl) (fun _ _ => by decide) (fun _ _ => by decide) (fun _ _ => by decide)
    · exact may_wait_nil c _

/-- What each window's array holds after the run. -/
def finalA (c : Dev nD) (w : Fin cfg0.W) : Buf (Elt F) ((cfg0.win w).arr.view.loc (c : Thread nD τ)) := (dats m 0 c).arrAt w cfg0.N

/-- After the run every window's array holds its final contents. -/
def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with zero counters the program runs to the computed contents, every counter back at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Mlp
end
-- ==== Proof.Final.lean ====
/-
# What a run leaves

The arguments end as they were, and the result array of every device ends holding the finished array.
-/
module

public import proofs.«01_k».proof.Proof.Launch
public import Idealize.ShloMosaic.Lib.Pipeline.ValueKit

@[expose] public section

noncomputable section

namespace Cert.Mlp

open Cert.KernelIdeal Cert.KernelIdeal.Gen
open Idealize.ShloMosaic Idealize.ShloMosaic.TcCoe Idealize.ShloMosaic.Pipeline Idealize.ShloMosaic.ValueIdx
open Idealize.SL.Sem

variable {F : FTy → Type} [FloatOps F] (m : (ℓ : Loc nD τ sig) → Buf (Elt F) ℓ)

/-- The result's one block is the whole array. -/
theorem emb_out (y : S256x256.Idx) : (win0_4.blk (0 : Fin 1)).view.emb y = y :=
  funext fun a => Fin.ext (Window.rect_emb_val_of_index_zero win0_4 (0 : Fin 1) a (by fin_cases a <;> rfl) y)

/-- The staged `x` is the array. -/
theorem xAt_eq (c : Dev nD) : xAt m c = m ((c.tc : Thread nD τ).loc main_arg0) :=
  Memref.read_access_unit_zero (Elt F) main_arg0 (funext fun a => by fin_cases a <;> rfl) _ _
/-- The staged gate weights are the device's block of them. -/
theorem gateAt_eq (c : Dev nD) : gateAt m c = m ((c.tc : Thread nD τ).loc main_arg1) :=
  Memref.read_access_unit_zero (Elt F) main_arg1 (funext fun a => by fin_cases a <;> rfl) _ _
/-- The staged second weights are the device's block of them. -/
theorem upAt_eq (c : Dev nD) : upAt m c = m ((c.tc : Thread nD τ).loc main_arg2) :=
  Memref.read_access_unit_zero (Elt F) main_arg2 (funext fun a => by fin_cases a <;> rfl) _ _
/-- The staged last weights are the device's block of them. -/
theorem downAt_eq (c : Dev nD) : downAt m c = m ((c.tc : Thread nD τ).loc main_arg3) :=
  Memref.read_access_unit_zero (Elt F) main_arg3 (funext fun a => by fin_cases a <;> rfl) _ _

/-- The result array ends holding the finished array. -/
theorem final_out (c : Dev nD) : finalA m c 4 = result m := by
  refine (dats m 0 c).arrAt_eq_of_covers 4 (result m) (by decide +kernel) fun t hf y => ?_
  obtain rfl := fin_N0 t
  exact (congrArg (result m) (emb_out y)).symm

/-- An argument array ends as it was. -/
theorem final_arg (c : Dev nD) : finalA m c 0 = m ((c.tc : Thread nD τ).loc main_arg0) ∧ finalA m c 1 = m ((c.tc : Thread nD τ).loc main_arg1)
    ∧ finalA m c 2 = m ((c.tc : Thread nD τ).loc main_arg2) ∧ finalA m c 3 = m ((c.tc : Thread nD τ).loc main_arg3) :=
  ⟨(dats m 0 c).arrAt_in 0 rfl _, (dats m 0 c).arrAt_in 1 rfl _, (dats m 0 c).arrAt_in 2 rfl _, (dats m 0 c).arrAt_in 3 rfl _⟩

/-- A run read back: every device's result array holds the finished array, the arguments are unchanged, and every counter
is zero. -/
theorem run_read (ρ : Dev nD → PrngReg) :
    θ_run defs (onTc (τ := τ) (main (F := F))) ⟨m, fun _ => 0, ρ⟩ fun r =>
      (∀ c : Dev nD, r.2.mem ((c.tc : Thread nD τ).loc main_v1) = result m
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run defs _ _).mono (fun _ h => ⟨fun c => ⟨(h.1 c 4).trans (final_out m c), (h.1 c 0).trans (final_arg m c).1,
      (h.1 c 1).trans (final_arg m c).2.1, (h.1 c 2).trans (final_arg m c).2.2.1, (h.1 c 3).trans (final_arg m c).2.2.2⟩, h.2⟩)
    (run_main m ρ)

end Cert.Mlp
end
-- ==== Proof.Algebra.lean ====
/-
# The mathematics

Over the extended reals the finished array is the gated product of the whole arrays: a sum over sixteen devices of products
over 512 columns each is one product over 8192 columns, and a quotient by a divisor that is not zero is a product by its
reciprocal.
-/
module

public import proofs.«01_k».proof.Proof.Contents
public import proofs.«01_k».proof.Proof.Gen.ReferenceIdeal.Run
public import Idealize.ShloMosaic.Lib.StackMember
public import Idealize.ShloMosaic.Lib.MatmulPlain
public import Idealize.ShloMosaic.Lib.IdealHost
public import Idealize.ShloMosaic.Lib.LayoutAt
public import Idealize.ShloMosaic.Lib.Pointwise.Sums

@[expose] public section

noncomputable section

namespace Cert.Mlp

open Cert.KernelIdeal Cert.KernelIdeal.Gen
open Idealize.ShloMosaic hiding ix2 ix3 eq_ix2
open Idealize.ShloMosaic.TcCoe Idealize.ShloMosaic.ValueIdx
open scoped BigOperators

/-! ## One element of the gate -/

/-- An exponential is not negative. -/
theorem exp_nonneg (x : EReal) : 0 ≤ Ideal.exp x := by
  induction x using EReal.rec with
  | bot => simp
  | top => simp
  | coe r => rw [Ideal.exp_coe]; exact EReal.coe_nonneg.mpr (Real.exp_pos r).le

/-- Times the sigmoid is over one plus the exponential of the negative. -/
theorem mul_sigmoid (u : EReal) : u * Ideal.logistic u = Ideal.div u (1 + Ideal.exp (-u)) := by
  refine Ideal.mul_one_div fun h => ?_
  have h1 : (1 : EReal) ≤ 1 + Ideal.exp (-u) := le_add_of_nonneg_right (exp_nonneg _)
  rw [h] at h1
  exact absurd h1 (by norm_num)

/-- The gate times the gated value, from the two products. -/
def gated (g u : EReal) : EReal := g * Ideal.div u (1 + Ideal.exp (-u))

/-! ## The kernel's payloads at an index -/

section Kernel
variable (x : FVec Ideal S256x256 .f32) (wg wu : FVec Ideal S256x512 .f32) (wd : FVec Ideal S512x256 .f32)

/-- The hidden activations at row `a`, column `k`. -/
theorem hidden_apply (a : Fin 256) (k : Fin 512) : k0_pay1 (F := Ideal) x wg wu (ix2 a k)
    = gated (∑ t : Fin 256, x (ix2 a t) * wg (ix2 t k)) (∑ t : Fin 256, x (ix2 a t) * wu (ix2 t k)) := by
  have hm : ∀ w : FVec Ideal S256x512 .f32, matmul dot_S256x256_S256x512_S256x512_1_0_0_1_n_n none x w (constant S256x512 .f32 0x00000000#32) (ix2 a k)
      = ∑ t : Fin 256, x (ix2 a t) * w (ix2 t k) := fun w =>
    (Ideal.matmul_plain_apply none x w (constant S256x512 .f32 0x00000000#32) a k).trans (by
      rw [constant_apply, Ideal.ofBits_zero_f32, zero_add])
  unfold k0_pay1 gated
  simp only [shapeCast_self]
  rw [← hm wg, ← hm wu, ← mul_sigmoid]
  rfl

/-- The partial product at row `a`, column `b`. -/
theorem partial_apply (h : FVec Ideal S256x512 .f32) (a b : Fin 256) : k0_pay3 (F := Ideal) h (k0_pay2 (F := Ideal) wd) (ix2 a b)
    = ∑ k : Fin 512, h (ix2 a k) * wd (ix2 k b) := by
  unfold k0_pay3 k0_pay2
  simp only [shapeCast_self]
  exact (Ideal.matmul_plain_apply none h wd (constant S256x256 .f32 0x00000000#32) a b).trans (by
    rw [constant_apply, Ideal.ofBits_zero_f32, zero_add])

/-- The local sum at row `a`, column `b`. -/
theorem summed_apply (f : FVec Ideal S16x16x256 .f32) (a : Fin 16) (b : Fin 256) : k0_pay5 (F := Ideal) f (ix2 a b) = ∑ d : Fin 16, f (ix3 d a b) := by
  unfold k0_pay5
  refine (Ideal.multiReduction_add_single _ _ _ _ _ _).trans (Finset.sum_congr rfl fun d _ => congrArg f ?_)
  funext i; fin_cases i <;> rfl
end Kernel

/-! ## The reference at an index -/

section Reference
open Cert.ReferenceIdeal (S256x8192 S8192x256 dot_S256x8192_S8192x256_S256x256_1_0_0_1_n_n dot_S256x256_S256x8192_S256x8192_1_0_0_1_n_n)
variable (X : FVec Ideal S256x256 .f32) (G U : FVec Ideal S256x8192 .f32) (D : FVec Ideal S8192x256 .f32)

/-- The whole-array result. -/
def whole : FVec Ideal S256x256 .f32 := fun i =>
  ∑ k : Fin 8192, gated (∑ t : Fin 256, X (ix2 (i 0) t) * G (ix2 t k)) (∑ t : Fin 256, X (ix2 (i 0) t) * U (ix2 t k)) * D (ix2 k (i 1))

/-- The reference's composed term is the whole-array result. -/
theorem reference_eq :
    Host.dotGeneral dot_S256x8192_S8192x256_S256x256_1_0_0_1_n_n none
      (mulf (Host.dotGeneral dot_S256x256_S256x8192_S256x8192_1_0_0_1_n_n none X G)
        (Host.divf (Host.dotGeneral dot_S256x256_S256x8192_S256x8192_1_0_0_1_n_n none X U)
          (addf (broadcastInDim S256x8192 ![] Cert.ReferenceIdeal.Gen.bcast_S_S256x8192 (constant Cert.ReferenceIdeal.S_ .f32 0x3F800000#32))
            (Host.exp (Host.negf (Host.dotGeneral dot_S256x256_S256x8192_S256x8192_1_0_0_1_n_n none X U)))))) D = whole X G U D := by
  funext i
  rw [eq_ix2 i]
  refine (StackMember.dotGeneral_plain_apply none _ D (i 0) (i 1)).trans (Finset.sum_congr rfl fun k _ => congrArg (· * D (ix2 k (i 1))) ?_)
  have hd : ∀ W : FVec Ideal S256x8192 .f32, Host.dotGeneral dot_S256x256_S256x8192_S256x8192_1_0_0_1_n_n none X W (ix2 (i 0) k)
      = ∑ t : Fin 256, X (ix2 (i 0) t) * W (ix2 t k) := fun W => StackMember.dotGeneral_plain_apply none X W (i 0) k
  unfold gated
  rw [← hd G, ← hd U, ← Ideal.ofBits_one_f32]
  rfl
end Reference

end Cert.Mlp
end
-- ==== Proof.Claims.lean ====
/-
# The claims

The three runs, and the kernel's result against the reference's.
-/
module

public import proofs.«01_k».proof.Defs
public import proofs.«01_k».proof.Proof.Final
public import proofs.«01_k».proof.Proof.Algebra
public import proofs.«01_k».proof.Proof.Gen.Kernel
public import Idealize.ShloMosaic.Lib.Quiescent

@[expose] public section

noncomputable section

namespace Cert.Mlp

open Idealize.ShloMosaic hiding ix2 ix3 eq_ix2
open Idealize.ShloMosaic.TcCoe Idealize.ShloMosaic.ValueIdx Idealize.SL.Sem
open Cert.KernelIdeal (S256x256 S256x512 S512x256)
open Cert.ReferenceIdeal (S256x8192 S8192x256)
open scoped BigOperators

/-! ## Frames -/

/-- The idealized kernel runs, keeps its arguments and ends with every counter at zero. -/
theorem frame_ideal : Cert.quiescent_KernelIdeal := fun m ρ _ =>
  (θ_run Cert.KernelIdeal.defs _ _).mono (fun _ h => ⟨fun c => (h.1 c).2, h.2⟩) (run_read (F := Ideal) m ρ)

section Same
variable {F : FTy → Type} [FloatOps F]
set_option maxRecDepth 65536 in
/-- The kernel's table of bodies is the idealized kernel's, the texts being one. -/
theorem same_bodies : Cert.Kernel.defs₀ (F := F) = Cert.KernelIdeal.defs₀ (F := F) :=
  congrArg Defs.onTc (funext fun l => by
    obtain ⟨n, h⟩ := l
    cases n with
    | zero => rfl
    | succ n => exact absurd h (by show ¬ n + 1 < 1; omega))
/-- So is its table of labels. -/
theorem same_defs : Cert.Kernel.defs (F := F) = Cert.KernelIdeal.defs (F := F) :=
  congrArg (Pipeline.defs Cert.KernelIdeal.pcfgs) same_bodies
end Same

/-- The kernel as printed runs, keeps its arguments and ends with every counter at zero. -/
theorem frame_kernel : Cert.quiescent_Kernel := fun m ρ _ => by
  rw [same_defs]
  exact (θ_run Cert.KernelIdeal.defs _ _).mono (fun _ h => ⟨fun c => (h.1 c).2, h.2⟩) (run_read (F := Bits) m ρ)

/-! ## The equation -/

section Equation
variable (m : (ℓ : Loc Cert.KernelIdeal.nD Cert.KernelIdeal.τ Cert.KernelIdeal.sig) → Buf (Elt Ideal) ℓ)
variable (X : FVec Ideal S256x256 .f32) (G U : FVec Ideal S256x8192 .f32) (D : FVec Ideal S8192x256 .f32)

/-- Column `k` of device `d`'s block is column `512 d + k` of the whole array. -/
theorem block_col (W : FVec Ideal S256x8192 .f32) (d : Fin 16) (t : Fin 256) (k : Fin 512) :
    (Layout.block ⟨2, ![256, 512]⟩ ⟨2, ![256, 8192]⟩ 1 16 d W (by decide) : FVec Ideal S256x512 .f32) (ix2 t k)
      = W (ix2 t ⟨d.val * 512 + k.val, by have := d.isLt; have := k.isLt; omega⟩) := by
  refine congrArg W (funext fun a => Fin.ext ?_)
  fin_cases a <;> shard_ext

/-- Row `k` of device `d`'s block is row `512 d + k` of the whole array. -/
theorem block_row (W : FVec Ideal S8192x256 .f32) (d : Fin 16) (k : Fin 512) (b : Fin 256) :
    (Layout.block ⟨2, ![512, 256]⟩ ⟨2, ![8192, 256]⟩ 0 16 d W (by decide) : FVec Ideal S512x256 .f32) (ix2 k b)
      = W (ix2 ⟨d.val * 512 + k.val, by have := d.isLt; have := k.isLt; omega⟩ b) := by
  refine congrArg W (funext fun a => Fin.ext ?_)
  fin_cases a <;> shard_ext

/-- From devices holding their blocks of the whole arrays, the finished array is the whole-array result. -/
theorem result_eq
    (hX : ∀ c : Dev Cert.KernelIdeal.nD, m ((c.tc : Thread Cert.KernelIdeal.nD Cert.KernelIdeal.τ).loc Cert.KernelIdeal.main_arg0) = X)
    (hG : ∀ c : Dev Cert.KernelIdeal.nD, m ((c.tc : Thread Cert.KernelIdeal.nD Cert.KernelIdeal.τ).loc Cert.KernelIdeal.main_arg1) = Layout.block ⟨2, ![256, 512]⟩ ⟨2, ![256, 8192]⟩ 1 16 c G)
    (hU : ∀ c : Dev Cert.KernelIdeal.nD, m ((c.tc : Thread Cert.KernelIdeal.nD Cert.KernelIdeal.τ).loc Cert.KernelIdeal.main_arg2) = Layout.block ⟨2, ![256, 512]⟩ ⟨2, ![256, 8192]⟩ 1 16 c U)
    (hD : ∀ c : Dev Cert.KernelIdeal.nD, m ((c.tc : Thread Cert.KernelIdeal.nD Cert.KernelIdeal.τ).loc Cert.KernelIdeal.main_arg3) = Layout.block ⟨2, ![512, 256]⟩ ⟨2, ![8192, 256]⟩ 0 16 c D) :
    result (F := Ideal) m = whole X G U D := by
  funext i
  refine (summed_apply _ _ _).trans ?_
  unfold whole
  rw [Fin.sum_univ_tiles 16 512 rfl]
  refine Finset.sum_congr rfl fun d _ => ?_
  have hrow : at2 (blockOf i) ⟨(i 0).val % 16, Nat.mod_lt _ (by decide)⟩ (i 1) = ix2 (i 0) (i 1) := by
    refine congrArg (fun r : Fin 256 => (ix2 r (i 1) : S256x256.Idx)) (Fin.ext ?_)
    show 16 * ((i 0).val / 16) + (i 0).val % 16 = (i 0).val
    omega
  show prod (F := Ideal) m d (at2 (blockOf i) ⟨(i 0).val % 16, _⟩ (i 1)) = _
  rw [hrow]
  refine (partial_apply _ _ (i 0) (i 1)).trans ?_
  refine Finset.sum_congr rfl fun k _ => ?_
  rw [xAt_eq, gateAt_eq, upAt_eq, downAt_eq, hX, hG, hU, hD]
  refine (congrArg (· * _) (hidden_apply X _ _ (i 0) k)).trans ?_
  exact congrArg₂ (· * ·) (congrArg₂ gated
    (Finset.sum_congr rfl fun t _ => congrArg (X (ix2 (i 0) t) * ·) (block_col G d t k))
    (Finset.sum_congr rfl fun t _ => congrArg (X (ix2 (i 0) t) * ·) (block_col U d t k))) (block_row D d k (i 1))
end Equation

/-! ## The reference -/

/-- The reference runs, keeps its arguments and ends with every counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals, every device's result is the reference's. -/
theorem algebraic : Cert.algebraic_KernelIdeal_ReferenceIdeal := fun m g m' g' _ h => by
  let R : FVec Ideal S256x256 .f32 := whole (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
  have e : result (F := Ideal) m = R :=
    result_eq m _ _ _ _ (fun c => (h c).1) (fun c => (h c).2.1) (fun c => (h c).2.2.1) (fun c => (h c).2.2.2)
  refine ⟨R, ?_, ?_⟩
  · exact (θ_run Cert.KernelIdeal.defs _ _).mono (fun _ hr c => ⟨(hr.1 c).1.trans e, (hr.1 c).2⟩) (run_read (F := Ideal) m g)
  · exact (θ_run Cert.ReferenceIdeal.defs _ _).mono (fun _ hr => ⟨(hr 0).1.trans (reference_eq _ _ _ _), (hr 0).2⟩)
      (Cert.ReferenceIdeal.Value.run (F := Ideal) m' g')

end Cert.Mlp
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

/-- The kernel, its idealization and the reference run, keep their arguments and end with every counter at zero, and over
the extended reals every device's result is the reference's. -/
theorem claim : Cert.Claim :=
  ⟨Cert.Kernel.Gen.facts, Cert.KernelIdeal.Gen.facts, Cert.ReferenceIdeal.Gen.facts,
    Cert.Mlp.frame_kernel, Cert.Mlp.frame_ideal, Cert.Mlp.frame_reference, trivial, Cert.Mlp.algebraic⟩

end Cert.Proof

end
